-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S50000x128 : Shape := ⟨2, ![50000, 128]⟩
abbrev S50000x512 : Shape := ⟨2, ![50000, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x512 : Shape := ⟨2, ![128, 512]⟩
abbrev S512 : Shape := ⟨1, ![512]⟩
abbrev S128x1 : Shape := ⟨2, ![128, 1]⟩
abbrev S1 : Shape := ⟨1, ![1]⟩
abbrev S_ : Shape := ⟨0, ![]⟩

class Facts : Prop where
  reducesTo_S50000x512_S_d0_1 : S50000x512.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S50000x512 : S_.BroadcastsInDim S50000x512 (![] : Fin 0 → Fin S50000x512.rank)

variable [Facts]

def fn_part2 {F : FTy → Type} [FloatOps F] (main_arg8 : FVec F S128x512 .f32) (main_arg9 : FVec F S512 .f32) (main_arg12 : FVec F S50000x512 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128x512 .f32 := Host.absf main_arg8
  let main_cst_13 : FVec F S_ .f32 := constant S_ .f32 0x7F800000#32
  let main_v37 : FVec F S128x512 .f32 := broadcastInDim S128x512 ![] bcast_S_S128x512 main_cst_13
  let main_v38 : IVec S128x512 1 := cmpf .olt main_v36 main_v37
  let main_c_14 : IVec S_ 1 := constantI S_ 1 1#1
  let main_v39 : IVec S_ 1 := (fun x v => Host.reduce IntOp.andi x v reducesTo_S128x512_S_d0_1 h_S_) main_v38 main_c_14
  let main_v40 : IVec S_ 1 := andi main_v35 main_v39
  let main_v41 : FVec F S512 .f32 := Host.absf main_arg9
  let main_cst_15 : FVec F S_ .f32 := constant S_ .f32 0x7F800000#32
  let main_v42 : FVec F S512 .f32 := broadcastInDim S512 ![] bcast_S_S512 main_cst_15
  let main_v43 : IVec S512 1 := cmpf .olt main_v41 main_v42
  let main_c_16 : IVec S_ 1 := constantI S_ 1 1#1
  let main_v44 : IVec S_ 1 := (fun x v => Host.reduce IntOp.andi x v reducesTo_S512_S_d0 h_S_) main_v43 main_c_16
  let main_v45 : IVec S_ 1 := andi main_v40 main_v44
  let main_v46 : FVec F S50000x512 .f32 := Host.absf main_arg12
  let main_cst_17 : FVec F S_ .f32 := constant S_ .f32 0x7F800000#32
  let main_v47 : FVec F S50000x512 .f32 := broadcastInDim S50000x512 ![] bcast_S_S50000x512 main_cst_17
  let main_v48 : IVec S50000x512 1 := cmpf .olt main_v46 main_v47
  let main_c_18 : IVec S_ 1 := constantI S_ 1 1#1
  let main_v49 : IVec S_ 1 := (fun x v => Host.reduce IntOp.andi x v reducesTo_S50000x512_S_d0_1 h_S_) main_v48 main_c_18
  let main_v50 : IVec S_ 1 := andi main_v45 main_v49
  main_v50

def fn_part1 {F : FTy → Type} [FloatOps F] (main_arg5 : FVec F S64 .f32) (main_arg6 : FVec F S64x128 .f32) (main_arg7 : FVec F S128 .f32) (main_arg8 : FVec F S128x512 .f32) (main_arg9 : FVec F S512 .f32) (main_arg12 : FVec F S50000x512 .f32) (main_v15 : IVec S_ 1) (main_v16 : FVec F S128x64 .f32) : IVec S_ 1 :=
  let main_cst_5 : FVec F S_ .f32 := constant S_ .f32 0x7F800000#32
  let main_v17 : FVec F S128x64 .f32 := broadcastInDim S128x64 ![] bcast_S_S128x64 main_cst_5
  let main_v18 : IVec S128x64 1 := cmpf .olt main_v16 main_v17
  let main_c_6 : IVec S_ 1 := constantI S_ 1 1#1
  let main_v19 : IVec S_ 1 := (fun x v => Host.reduce IntOp.andi x v reducesTo_S128x64_S_d0_1 h_S_) main_v18 main_c_6
  let main_v20 : IVec S_ 1 := andi main_v15 main_v19
  let main_v21 : FVec F S64 .f32 := Host.absf main_arg5
  let main_cst_7 : FVec F S_ .f32 := constant S_ .f32 0x7F800000#32
  let main_v22 : FVec F S64 .f32 := broadcastInDim S64 ![] bcast_S_S64 main_cst_7
  let main_v23 : IVec S64 1 := cmpf .olt main_v21 main_v22
  let main_c_8 : IVec S_ 1 := constantI S_ 1 1#1
  let main_v24 : IVec S_ 1 := (fun x v => Host.reduce IntOp.andi x v reducesTo_S64_S_d0 h_S_) main_v23 main_c_8
  let main_v25 : IVec S_ 1 := andi main_v20 main_v24
  let main_v26 : FVec F S64x128 .f32 := Host.absf main_arg6
  let main_cst_9 : FVec F S_ .f32 := constant S_ .f32 0x7F800000#32
  let main_v27 : FVec F S64x128 .f32 := broadcastInDim S64x128 ![] bcast_S_S64x128 main_cst_9
  let main_v28 : IVec S64x128 1 := cmpf .olt main_v26 main_v27
  let main_c_10 : IVec S_ 1 := constantI S_ 1 1#1
  let main_v29 : IVec S_ 1 := (fun x v => Host.reduce IntOp.andi x v reducesTo_S64x128_S_d0_1 h_S_) main_v28 main_c_10
  let main_v30 : IVec S_ 1 := andi main_v25 main_v29
  let main_v31 : FVec F S128 .f32 := Host.absf main_arg7
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg8 main_arg9 main_arg12 main_v30 main_v33

def fn {F : FTy → Type} [FloatOps F] (main_arg0 : FVec F S50000x128 .f32) (main_arg1 : IVec S50000x512 1) (main_arg2 : FVec F S128x128 .f32) (main_arg3 : FVec F S128 .f32) (main_arg4 : FVec F S128x64 .f32) (main_arg5 : FVec F S64 .f32) (main_arg6 : FVec F S64x128 .f32) (main_arg7 : FVec F S128 .f32) (main_arg8 : FVec F S128x512 .f32) (main_arg9 : FVec F S512 .f32) (main_arg10 : FVec F S128x1 .f32) (main_arg11 : FVec F S1 .f32) (main_arg12 : FVec F S50000x512 .f32) : IVec S_ 1 :=
  let main_c : IVec S_ 1 := constantI S_ 1 1#1
  let main_v0 : IVec S_ 1 := (fun x v => Host.reduce IntOp.andi x v reducesTo_S50000x512_S_d0_1 h_S_) main_arg1 main_c
  let main_v1 : FVec F S50000x128 .f32 := Host.absf main_arg0
  let main_cst : FVec F S_ .f32 := constant S_ .f32 0x7F800000#32
  let main_v2 : FVec F S50000x128 .f32 := broadcastInDim S50000x128 ![] bcast_S_S50000x128 main_cst
  let main_v3 : IVec S50000x128 1 := cmpf .olt main_v1 main_v2
  let main_c_0 : IVec S_ 1 := constantI S_ 1 1#1
  let main_v4 : IVec S_ 1 := (fun x v => Host.reduce IntOp.andi x v reducesTo_S50000x128_S_d0_1 h_S_) main_v3 main_c_0
  let main_v5 : IVec S_ 1 := andi main_v0 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_c_2 : IVec S_ 1 := constantI S_ 1 1#1
  let main_v9 : IVec S_ 1 := (fun x v => Host.reduce IntOp.andi x v reducesTo_S128x128_S_d0_1 h_S_) main_v8 main_c_2
  let main_v10 : IVec S_ 1 := andi main_v5 main_v9
  let main_v11 : FVec F S128 .f32 := Host.absf main_arg3
  let main_cst_3 : FVec F S_ .f32 := constant S_ .f32 0x7F800000#32
  let main_v12 : FVec F S128 .f32 := broadcastInDim S128 ![] bcast_S_S128 main_cst_3
  let main_v13 : IVec S128 1 := cmpf .olt main_v11 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v10 main_v14
  let main_v16 : FVec F S128x64 .f32 := Host.absf main_arg4
  fn_part1 (F := F) main_arg5 main_arg6 main_arg7 main_arg8 main_arg9 main_arg12 main_v15 main_v16
-- ==== Kernel.lean ====
abbrev S50000x128 : Shape := ⟨2, ![50000, 128]⟩
abbrev S50000x512 : Shape := ⟨2, ![50000, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x512 : Shape := ⟨2, ![128, 512]⟩
abbrev S512 : Shape := ⟨1, ![512]⟩
abbrev S128x1 : Shape := ⟨2, ![128, 1]⟩
abbrev S1 : Shape := ⟨1, ![1]⟩
abbrev S512x50000 : Shape := ⟨2, ![512, 50000]⟩
abbrev S_ : Shape := ⟨0, ![]⟩
abbrev S512x53248 : Shape := ⟨2, ![512, 53248]⟩
abbrev S512x13x4096 : Shape := ⟨3, ![512, 13, 4096]⟩
abbrev S13x512x4096 : Shape := ⟨3, ![13, 512, 4096]⟩
abbrev S64x1 : Shape := ⟨2, ![64, 1]⟩
abbrev S512x128 : Shape := ⟨2, ![512, 128]⟩
abbrev S512x1 : Shape := ⟨2, ![512, 1]⟩
abbrev S1x128 : Shape := ⟨2, ![1, 128]⟩
abbrev S1x1 : Shape := ⟨2, ![1, 1]⟩
abbrev S50000 : Shape := ⟨1, ![50000]⟩
abbrev S4096x128 : Shape := ⟨2, ![4096, 128]⟩
abbrev S1x512x4096 : Shape := ⟨3, ![1, 512, 4096]⟩
abbrev S4096 : Shape := ⟨1, ![4096]⟩
abbrev S128x4096 : Shape := ⟨2, ![128, 4096]⟩
abbrev S64x4096 : Shape := ⟨2, ![64, 4096]⟩
abbrev S512x4096 : Shape := ⟨2, ![512, 4096]⟩
abbrev S1x4096 : Shape := ⟨2, ![1, 4096]⟩
abbrev S1x512 : Shape := ⟨2, ![1, 512]⟩

abbrev nBuf : Space → Nat
  | .hbm => 33
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S50000x512, .i1⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x512, .f32⟩
  | .hbm, ⟨9, _⟩ => ⟨S512, .f32⟩
  | .hbm, ⟨10, _⟩ => ⟨S128x1, .f32⟩
  | .hbm, ⟨11, _⟩ => ⟨S1, .f32⟩
  | .hbm, ⟨12, _⟩ => ⟨S50000x512, .f32⟩
  | .hbm, ⟨13, _⟩ => ⟨S512x50000, .f32⟩
  | .hbm, ⟨14, _⟩ => ⟨S_, .i32⟩
  | .hbm, ⟨15, _⟩ => ⟨S_, .f32⟩
  | .hbm, ⟨16, _⟩ => ⟨S512x53248, .f32⟩
  | .hbm, ⟨17, _⟩ => ⟨S512x13x4096, .f32⟩
  | .hbm, ⟨18, _⟩ => ⟨S13x512x4096, .f32⟩
  | .hbm, ⟨19, _⟩ => ⟨S128x128, .f32⟩
  | .hbm, ⟨20, _⟩ => ⟨S128x1, .f32⟩
  | .hbm, ⟨21, _⟩ => ⟨S64x128, .f32⟩
  | .hbm, ⟨22, _⟩ => ⟨S64x1, .f32⟩
  | .hbm, ⟨23, _⟩ => ⟨S128x64, .f32⟩
  | .hbm, ⟨24, _⟩ => ⟨S128x1, .f32⟩
  | .hbm, ⟨25, _⟩ => ⟨S512x128, .f32⟩
  | .hbm, ⟨26, _⟩ => ⟨S512x1, .f32⟩
  | .hbm, ⟨27, _⟩ => ⟨S1x128, .f32⟩
  | .hbm, ⟨28, _⟩ => ⟨S1x1, .f32⟩
  | .hbm, ⟨29, _⟩ => ⟨S50000, .i32⟩
  | .hbm, ⟨30, _⟩ => ⟨S50000, .f32⟩
  | .hbm, ⟨31, _⟩ => ⟨S50000, .f32⟩
  | .hbm, ⟨32, _⟩ => ⟨S50000, .f32⟩
  | .local _ .vmem, ⟨0, _⟩ => ⟨S4096x128, .f32⟩
  | .local _ .vmem, ⟨1, _⟩ => ⟨S4096x128, .f32⟩
  | .local _ .vmem, ⟨2, _⟩ => ⟨S1x512x4096, .f32⟩
  | .local _ .vmem, ⟨3, _⟩ => ⟨S1x512x4096, .f32⟩
  | .local _ .vmem, ⟨4, _⟩ => ⟨S128x128, .f32⟩
  | .local _ .vmem, ⟨5, _⟩ => ⟨S128x1, .f32⟩
  | .local _ .vmem, ⟨6, _⟩ => ⟨S64x128, .f32⟩
  | .local _ .vmem, ⟨7, _⟩ => ⟨S64x1, .f32⟩
  | .local _ .vmem, ⟨8, _⟩ => ⟨S128x64, .f32⟩
  | .local _ .vmem, ⟨9, _⟩ => ⟨S128x1, .f32⟩
  | .local _ .vmem, ⟨10, _⟩ => ⟨S512x128, .f32⟩
  | .local _ .vmem, ⟨11, _⟩ => ⟨S512x1, .f32⟩
  | .local _ .vmem, ⟨12, _⟩ => ⟨S1x128, .f32⟩
  | .local _ .vmem, ⟨13, _⟩ => ⟨S1x1, .f32⟩
  | .local _ .vmem, ⟨14, _⟩ => ⟨S4096, .i32⟩
  | .local _ .vmem, ⟨15, _⟩ => ⟨S4096, .i32⟩
  | .local _ .vmem, ⟨16, _⟩ => ⟨S4096, .f32⟩
  | .local _ .vmem, ⟨17, _⟩ => ⟨S4096, .f32⟩
  | .local _ .vmem, ⟨18, _⟩ => ⟨S4096, .f32⟩
  | .local _ .vmem, ⟨19, _⟩ => ⟨S4096, .f32⟩
  | .local _ .vmem, ⟨20, _⟩ => ⟨S4096, .f32⟩
  | .local _ .vmem, ⟨21, _⟩ => ⟨S4096, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  ![arg0.toNat]

def cc0_transform_13 (i : grid0.Coords) : Fin 1 → Nat :=
  let arg0 : BitVec 32 := BitVec.ofNat 32 (i 0).val
  let c0_i32 : BitVec 32 := 0#32
  ![arg0.toNat]

def cc0_transform_14 (i : grid0.Coords) : Fin 1 → Nat :=
  let arg0 : BitVec 32 := BitVec.ofNat 32 (i 0).val
  let c0_i32 : BitVec 32 := 0#32
  ![arg0.toNat]

def cc0_transform_15 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S50000x128 : Shape := ⟨2, ![50000, 128]⟩
abbrev S50000x512 : Shape := ⟨2, ![50000, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x512 : Shape := ⟨2, ![128, 512]⟩
abbrev S512 : Shape := ⟨1, ![512]⟩
abbrev S128x1 : Shape := ⟨2, ![128, 1]⟩
abbrev S1 : Shape := ⟨1, ![1]⟩
abbrev S1x128 : Shape := ⟨2, ![1, 128]⟩
abbrev S_ : Shape := ⟨0, ![]⟩
abbrev S50000x64 : Shape := ⟨2, ![50000, 64]⟩
abbrev S1x64 : Shape := ⟨2, ![1, 64]⟩
abbrev S1x512 : Shape := ⟨2, ![1, 512]⟩
abbrev S50000 : Shape := ⟨1, ![50000]⟩
abbrev S50000x1 : Shape := ⟨2, ![50000, 1]⟩
abbrev S50000x1x1 : Shape := ⟨3, ![50000, 1, 1]⟩
abbrev S1x1x1 : Shape := ⟨3, ![1, 1, 1]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x512, .i1⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x512, .f32⟩
  | .hbm, ⟨9, _⟩ => ⟨S512, .f32⟩
  | .hbm, ⟨10, _⟩ => ⟨S128x1, .f32⟩
  | .hbm, ⟨11, _⟩ => ⟨S1, .f32⟩
  | .hbm, ⟨12, _⟩ => ⟨S50000x512, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S_, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S50000x64, .f32⟩
  | .hbm, ⟨35, _⟩ => ⟨S_, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x512, .f32⟩
  | .hbm, ⟨44, _⟩ => ⟨S1x512, .f32⟩
  | .hbm, ⟨45, _⟩ => ⟨S50000x512, .f32⟩
  | .hbm, ⟨46, _⟩ => ⟨S50000x512, .f32⟩
  | .hbm, ⟨47, _⟩ => ⟨S_, .f32⟩
  | .hbm, ⟨48, _⟩ => ⟨S50000x512, .f32⟩
  | .hbm, ⟨49, _⟩ => ⟨S50000x512, .f32⟩
  | .hbm, ⟨50, _⟩ => ⟨S50000x512, .f32⟩
  | .hbm, ⟨51, _⟩ => ⟨S50000x512, .i32⟩
  | .hbm, ⟨52, _⟩ => ⟨S_, .f32⟩
  | .hbm, ⟨53, _⟩ => ⟨S_, .i32⟩
  | .hbm, ⟨54, _⟩ => ⟨S50000, .f32⟩
  | .hbm, ⟨55, _⟩ => ⟨S50000, .i32⟩
  | .hbm, ⟨56, _⟩ => ⟨S_, .f32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x512, .f32⟩
  | .hbm, ⟨63, _⟩ => ⟨S50000x512, .f32⟩
  | .hbm, ⟨64, _⟩ => ⟨S50000x512, .f32⟩
  | .hbm, ⟨65, _⟩ => ⟨S_, .f32⟩
  | .hbm, ⟨66, _⟩ => ⟨S50000, .f32⟩
  | .hbm, ⟨67, _⟩ => ⟨S50000x1, .f32⟩
  | .hbm, ⟨68, _⟩ => ⟨S50000x1, .f32⟩
  | .hbm, ⟨69, _⟩ => ⟨S50000x512, .f32⟩
  | .hbm, ⟨70, _⟩ => ⟨S50000x512, .f32⟩
  | .hbm, ⟨71, _⟩ => ⟨S50000x1, .i32⟩
  | .hbm, ⟨72, _⟩ => ⟨S_, .i32⟩
  | .hbm, ⟨73, _⟩ => ⟨S50000x1, .i32⟩
  | .hbm, ⟨74, _⟩ => ⟨S50000x1, .i1⟩
  | .hbm, ⟨75, _⟩ => ⟨S_, .i32⟩
  | .hbm, ⟨76, _⟩ => ⟨S50000x1, .i32⟩
  | .hbm, ⟨77, _⟩ => ⟨S50000x1, .i32⟩
  | .hbm, ⟨78, _⟩ => ⟨S50000x1, .i32⟩
  | .hbm, ⟨79, _⟩ => ⟨S50000x1x1, .i32⟩
  | .hbm, ⟨80, _⟩ => ⟨S1, .i32⟩
  | .hbm, ⟨81, _⟩ => ⟨S_, .i32⟩
  | .hbm, ⟨82, _⟩ => ⟨S50000x1x1, .i32⟩
  | .hbm, ⟨83, _⟩ => ⟨S50000x1x1, .i1⟩
  | .hbm, ⟨84, _⟩ => ⟨S1x1x1, .i32⟩
  | .hbm, ⟨85, _⟩ => ⟨S50000x1x1, .i32⟩
  | .hbm, ⟨86, _⟩ => ⟨S50000x1x1, .i1⟩
  | .hbm, ⟨87, _⟩ => ⟨S50000x1x1, .i1⟩
  | .hbm, ⟨88, _⟩ => ⟨S_, .i1⟩
  | .hbm, ⟨89, _⟩ => ⟨S50000x1, .i1⟩
  | .hbm, ⟨90, _⟩ => ⟨S50000x1, .f32⟩
  | .hbm, ⟨91, _⟩ => ⟨S_, .f32⟩
  | .hbm, ⟨92, _⟩ => ⟨S50000x1, .f32⟩
  | .hbm, ⟨93, _⟩ => ⟨S50000x1, .f32⟩
  | .hbm, ⟨94, _⟩ => ⟨S50000, .f32⟩
  | .hbm, ⟨95, _⟩ => ⟨S50000x512, .f32⟩
  | .hbm, ⟨96, _⟩ => ⟨S50000x512, .f32⟩
  | .hbm, ⟨97, _⟩ => ⟨S_, .f32⟩
  | .hbm, ⟨98, _⟩ => ⟨S_, .f32⟩
  | .hbm, ⟨99, _⟩ => ⟨S50000x512, .f32⟩
  | .hbm, ⟨100, _⟩ => ⟨S50000x512, .f32⟩
  | .hbm, ⟨101, _⟩ => ⟨S_, .f32⟩
  | .hbm, ⟨102, _⟩ => ⟨S50000, .f32⟩
  | .hbm, ⟨103, _⟩ => ⟨S50000, .f32⟩
  | .hbm, ⟨104, _⟩ => ⟨S50000x1, .f32⟩
  | .hbm, ⟨105, _⟩ => ⟨S1x1, .f32⟩
  | .hbm, ⟨106, _⟩ => ⟨S50000x1, .f32⟩
  | .hbm, ⟨107, _⟩ => ⟨S50000x1, .f32⟩
  | .hbm, ⟨108, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_call0_v0 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_cst : Ref sig .tc := ⟨.hbm, 52, rfl⟩
abbrev main_call1_c : Ref sig .tc := ⟨.hbm, 53, rfl⟩
abbrev main_call1_v1_0 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_call2_cst_0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_cst_1 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_v33 : Ref sig .tc := ⟨.hbm, 70, rfl⟩
abbrev main_v34 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_cst_4 : Ref sig .tc := ⟨.hbm, 97, rfl⟩
abbrev main_call4_v0 : Ref sig .tc := ⟨.hbm, 98, rfl⟩
abbrev main_call4_v1 : Ref sig .tc := ⟨.hbm, 99, rfl⟩
abbrev main_v39 : Ref sig .tc := ⟨.hbm, 100, rfl⟩
abbrev main_cst_5 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩

abbrev nD : Nat := 1
abbrev τ : Topo := Topo.v7x

variable {F : FTy → Type} [FloatOps F]
-- ==== Proof.FrameKernel.lean ====
/- The frame of `Kernel`: @main runs from any memory with zero counters, its arguments end as they were and every counter
   ends at zero. The last block of `x` overhangs its array, so the rows past the end of the staging buffer hold words nothing
   names, and what the matrix products make of them is not stated: the four outputs are forgotten in the proof data. -/
module

public import proofs.«01_k».proof.Proof.BodyKernel

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `x`'s block filled out with zeros past the array's end. -/
def xfill (c : Dev nD) (t : Fin cfg0.N) : Vec F S4096x128 .f32 :=
  win0_0.fill (grid0.coords t) (fun _ => Scalar.ofBits .f32 0#32) (iblk m c 0 t)

/-- The proof data: every input's buffer at its block, the outputs' at whatever. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (fun _ => 0#32 : Vec F S4096 .i32)
    | ⟨13, _⟩ => (fun _ => Scalar.ofBits .f32 0#32 : Vec F S4096 .f32)
    | ⟨14, _⟩ => (fun _ => Scalar.ofBits .f32 0#32 : Vec F S4096 .f32)
    | ⟨15, _⟩ => (fun _ => Scalar.ofBits .f32 0#32 : Vec F S4096 .f32)
    | ⟨_ + 16, h⟩ => absurd h (Nat.not_lt.2 (Nat.le_add_left _ _))
  Φ _ := Pipeline.ΦA spec0 c
  q _ := fullShare
  owed _ := 0

/-- The forgotten windows: the four outputs. -/
def fgt : Fin cfg0.W → Bool
  | ⟨12, _⟩ => true
  | ⟨13, _⟩ => true
  | ⟨14, _⟩ => true
  | ⟨15, _⟩ => true
  | _ => false

theorem A_eq (c : Dev nD) (w : Fin cfg0.W) : (dats m 0 c).A w = V m c (Pipeline.arrRef spec0 w) := rfl

/-- `x`'s buffer as the body finds it: its block on the rows inside the array, anything past them. -/
theorem before_x (c : Dev nD) (t : Fin cfg0.N) (d) :
    (dats m 0 c).before 0 t d = win0_0.fill (grid0.coords t) d (iblk m c 0 t) := by
  unfold Dat.before; rw [if_pos (fetch0_0 t)]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x m c t, before0_1_of m (dats m 0 c) (A_eq m c 1) (fun _ => rfl) t, before0_2_of m (dats m 0 c) (A_eq m c 2) (fun _ => rfl) t,
    before0_3_of m (dats m 0 c) (A_eq m c 3) (fun _ => rfl) t, before0_4_of m (dats m 0 c) (A_eq m c 4) (fun _ => rfl) t,
    before0_5_of m (dats m 0 c) (A_eq m c 5) (fun _ => rfl) t, before0_6_of m (dats m 0 c) (A_eq m c 6) (fun _ => rfl) t,
    before0_7_of m (dats m 0 c) (A_eq m c 7) (fun _ => rfl) t, before0_8_of m (dats m 0 c) (A_eq m c 8) (fun _ => rfl) t,
    before0_9_of m (dats m 0 c) (A_eq m c 9) (fun _ => rfl) t, before0_10_of m (dats m 0 c) (A_eq m c 10) (fun _ => rfl) t,
    before0_11_of m (dats m 0 c) (A_eq m c 11) (fun _ => rfl) t]
  rw [show (dats m 0 c).Φ t.succ = (dats m 0 c).Φ t.castSucc from rfl,
    show (dats m 0 c).owesAt () t.succ = (dats m 0 c).owesAt () t.castSucc from rfl,
    show win0_0.cut (grid0.coords t) ((dats m 0 c).after 0 t) = iblk m c 0 t from win0_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, H12, H13, H14, H15⟩
  iapply (triple c Set.univ (grid0.coords t) _ _ _ _ _ _ _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t)
    (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iexists _; iexact H15

theorem body_obligation (c : Dev nD) : BodyObligationLoose (dats (F := F) m 0 c) (defs₀ (F := F)) Variants.none () Set.univ fgt := fun t => by
  rw [bigSep_W0, bigSep_W0]
  exact triple_restated (sound_body m c t) rfl .rfl fun _ => .rfl

set_option backward.isDefEq.respectTransparency.types false in
/-- The run: the arguments as launched and the counters at zero. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := fun _ _ => rfl) (hΦ := fun _ _ => rfl)
    (Q' := fun r => Pipeline.RDat.FramePost cfg0 (fun c => (dats m 0 c).toRForget fgt) (V m) r ∧ r.2.sem = fun _ => 0)
    (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c =>
    ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩, h.2⟩) (run m ρ)

end Cert.Kernel.Body

end
-- ==== Proof.BodyKernelIdeal.lean ====
/- The kernel body of `KernelIdeal` as a triple at any sixteen whole staging buffers: the twelve inputs are read whole and
   left as found, and the four outputs end at the body's payloads over what the inputs held. -/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ValueKit.Basic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The unmasked writes through one rectangle, the whole shape at offset zero, leave the payload. -/
theorem read_writes_whole {S : Shape} {e : EltTy} {sp : Space} (v : View sig .tc sp S e) (f : v.ty.Contents (Elt F))
    {off : Fin S.rank → ℕ} (inb : ∀ a, off a + S.size a ≤ S.size a) (w : S.Idx → Elt F e) (h : ∀ a, off a = 0) :
    v.read (Elt F) (v.writes (Elt F) f [⟨Rect.unit off S.size inb, w⟩]) = w := by
  rw [View.read_writes_eq_canon _ _ _ fun y => ⟨_, List.mem_singleton_self _, ?_⟩]
  · exact View.canon_cons_unit_lit inb w [] h
  · rw [Rect.mem_set_unit]
    intro a
    rw [h a, Nat.zero_add]
    exact ⟨Nat.zero_le _, (y a).isLt⟩

set_option maxHeartbeats 2000000 in
/-- The body at any whole staging buffers. -/
theorem triple (c : Dev nD) (E : Set ℕ) (i : grid0.Coords)
    (arg1 : Memref sig .tc .vmem S4096x128 .f32) (harg1 : arg1.IsWhole) (arg2 : Memref sig .tc .vmem S1x512x4096 .f32) (harg2 : arg2.IsWhole)
    (arg3 : Memref sig .tc .vmem S128x128 .f32) (harg3 : arg3.IsWhole) (arg4 : Memref sig .tc .vmem S128x1 .f32) (harg4 : arg4.IsWhole)
    (arg5 : Memref sig .tc .vmem S64x128 .f32) (harg5 : arg5.IsWhole) (arg6 : Memref sig .tc .vmem S64x1 .f32) (harg6 : arg6.IsWhole)
    (arg7 : Memref sig .tc .vmem S128x64 .f32) (harg7 : arg7.IsWhole) (arg8 : Memref sig .tc .vmem S128x1 .f32) (harg8 : arg8.IsWhole)
    (arg9 : Memref sig .tc .vmem S512x128 .f32) (harg9 : arg9.IsWhole) (arg10 : Memref sig .tc .vmem S512x1 .f32) (harg10 : arg10.IsWhole)
    (arg11 : Memref sig .tc .vmem S1x128 .f32) (harg11 : arg11.IsWhole) (arg12 : Memref sig .tc .vmem S1x1 .f32) (harg12 : arg12.IsWhole)
    (arg13 : Memref sig .tc .vmem S4096 .i32) (harg13 : arg13.IsWhole) (arg14 : Memref sig .tc .vmem S4096 .f32) (harg14 : arg14.IsWhole)
    (arg15 : Memref sig .tc .vmem S4096 .f32) (harg15 : arg15.IsWhole) (arg16 : Memref sig .tc .vmem S4096 .f32) (harg16 : arg16.IsWhole)
    (x : Vec F S4096x128 .f32) (g : Vec F S1x512x4096 .f32) (w1 : Vec F S128x128 .f32) (b1 : Vec F S128x1 .f32)
    (w2 : Vec F S64x128 .f32) (b2 : Vec F S64x1 .f32) (w3 : Vec F S128x64 .f32) (b3 : Vec F S128x1 .f32)
    (wa : Vec F S512x128 .f32) (ba : Vec F S512x1 .f32) (wc : Vec F S1x128 .f32) (bc : Vec F S1x1 .f32)
    (K : PUnit → sProp 𝕄) :
    iprop(owns (c : Thread nD τ) arg1 fullShare x ∗ owns (c : Thread nD τ) arg2 fullShare g
        ∗ owns (c : Thread nD τ) arg3 fullShare w1 ∗ owns (c : Thread nD τ) arg4 fullShare b1
        ∗ owns (c : Thread nD τ) arg5 fullShare w2 ∗ owns (c : Thread nD τ) arg6 fullShare b2
        ∗ owns (c : Thread nD τ) arg7 fullShare w3 ∗ owns (c : Thread nD τ) arg8 fullShare b3
        ∗ owns (c : Thread nD τ) arg9 fullShare wa ∗ owns (c : Thread nD τ) arg10 fullShare ba
        ∗ owns (c : Thread nD τ) arg11 fullShare wc ∗ owns (c : Thread nD τ) arg12 fullShare bc
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (iprop(owns (c : Thread nD τ) arg1 fullShare x ∗ owns (c : Thread nD τ) arg2 fullShare g
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare w3 ∗ owns (c : Thread nD τ) arg8 fullShare b3
            ∗ owns (c : Thread nD τ) arg9 fullShare wa ∗ owns (c : Thread nD τ) arg10 fullShare ba
            ∗ owns (c : Thread nD τ) arg11 fullShare wc ∗ owns (c : Thread nD τ) arg12 fullShare bc
            ∗ owns (c : Thread nD τ) arg13 fullShare (k0_pay12 (k0_pay3 x w1 b1 w2 b2 w3 b3 wa ba) g)
            ∗ owns (c : Thread nD τ) arg14 fullShare (k0_pay13 (k0_pay3 x w1 b1 w2 b2 w3 b3 wa ba) g)
            ∗ owns (c : Thread nD τ) arg15 fullShare (k0_pay14 (k0_pay3 x w1 b1 w2 b2 w3 b3 wa ba) g)
            ∗ owns (c : Thread nD τ) arg16 fullShare (k0_pay1 (k0_pay15 (k0_pay2 x w1 b1 w2 b2 w3 b3) wc) (k0_pay16 bc)))
            -∗ K ⟨⟩))
      ⊢ wp frame (wpE (defs₀ (F := F)) Variants.none c none) E
          (cc0__fused_body i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16) K := by
  simp only [cc0__fused_body_eq_skeleton]; unfold cc0__fused_body_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, ⟨%d15, %f15, -, H15⟩, ⟨%d16, %f16, -, H16⟩, Hk⟩
  subst hf1 hf2 hf3 hf4 hf5 hf6 hf7 hf8 hf9 hf10 hf11 hf12
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]
  · iexists _; isplitr
    swap; · iexact H13
    ipureintro
    refine (read_writes_whole _ _ _ _ (by decide)).trans ?_
    simp (disch := decide) only [View.readAt_eq_ld, View.ld_unit_lit]
  isplitl [H14]
  · iexists _; isplitr
    swap; · iexact H14
    ipureintro
    refine (read_writes_whole _ _ _ _ (by decide)).trans ?_
    simp (disch := decide) only [View.readAt_eq_ld, View.ld_unit_lit]
  isplitl [H15]
  · iexists _; isplitr
    swap; · iexact H15
    ipureintro
    refine (read_writes_whole _ _ _ _ (by decide)).trans ?_
    simp (disch := decide) only [View.readAt_eq_ld, View.ld_unit_lit]
  iexists _; isplitr
  swap; · iexact H16
  ipureintro
  refine (read_writes_whole _ _ _ _ (by decide)).trans ?_
  simp (disch := decide) only [View.readAt_eq_ld, View.ld_unit_lit]

end Cert.KernelIdeal.Body

end
-- ==== Proof.Row.lean ====
/- One row of the problem, over the extended reals: the layers, the kernel's pick, log-probability and entropy of a row of
   logits, and what they are when every logit and every noise is a real number. -/
module

public import Idealize.ShloMosaic.PureOps.Ideal
public import Idealize.ShloMosaic.PureOps.Ideal.Laws
public import Idealize.ShloMosaic.PureOps.Reduce

@[expose] public section

set_option maxRecDepth 8192

noncomputable section

namespace Cert.Row

open Idealize.ShloMosaic
open scoped BigOperators

/-! ## Real numbers among the extended reals -/

/-- The extended real is a real number. -/
def IsR (a : EReal) : Prop := ∃ r : ℝ, a = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsR.sum {n : ℕ} {f : Fin n → EReal} (h : ∀ k, IsR (f k)) : IsR (∑ k, f k) := by
  choose r hr using h
  exact ⟨∑ k, r k, by rw [← coe_sum]; exact Finset.sum_congr rfl fun k _ => hr k⟩

/-- The quotient of two reals, the divisor not zero. -/
theorem div_coe (x y : ℝ) (hy : y ≠ 0) : Ideal.div (x : EReal) (y : EReal) = ((x / y : ℝ) : EReal) := by
  have h : ¬((y : EReal) = 0) := by exact_mod_cast hy
  rw [Ideal.div, if_neg h, ← EReal.coe_inv, ← EReal.coe_mul, div_eq_mul_inv]

theorem exp_coe (x : ℝ) : Ideal.exp (x : EReal) = (Real.exp x : EReal) := rfl

theorem log_coe (x : ℝ) (hx : 0 < x) : Ideal.log (x : EReal) = (Real.log x : EReal) := by
  show (if x ≤ 0 then ⊥ else (Real.log x : EReal)) = _
  rw [if_neg (not_le.2 hx)]

theorem IsR.logistic {a : EReal} (ha : IsR a) : IsR (Ideal.logistic a) := by
  obtain ⟨r, rfl⟩ := ha
  refine ⟨1 / (1 + Real.exp (-r)), ?_⟩
  have h := div_coe 1 (1 + Real.exp (-r)) (by positivity)
  rw [EReal.coe_add, ← exp_coe, EReal.coe_neg, EReal.coe_one] at h
  exact h

/-- `|a| < ∞` says that `a` is a real number. -/
theorem IsR.of_abs_lt {a : EReal} (h : max a (-a) < ⊤) : IsR a := by
  induction a with
  | bot => simp at h
  | top => simp at h
  | coe r => exact ⟨r, rfl⟩

/-! ## The layers -/

/-- A linear layer: row `j` of the weights against the input, plus the bias. -/
def lay {n m : ℕ} (W : Fin m → Fin n → EReal) (b : Fin m → EReal) (v : Fin n → EReal) : Fin m → EReal :=
  fun j => ∑ k, W j k * v k + b j

/-- The activation `v · logistic v`. -/
def silu {n : ℕ} (v : Fin n → EReal) : Fin n → EReal := fun j => v j * Ideal.logistic (v j)

/-- The features of a row. -/
def feat (W1 : Fin 128 → Fin 128 → EReal) (b1 : Fin 128 → EReal) (W2 : Fin 64 → Fin 128 → EReal) (b2 : Fin 64 → EReal)
    (W3 : Fin 128 → Fin 64 → EReal) (b3 : Fin 128 → EReal) (x : Fin 128 → EReal) : Fin 128 → EReal :=
  lay W3 b3 (silu (lay W2 b2 (silu (lay W1 b1 x))))

theorem lay_isR {n m : ℕ} {W : Fin m → Fin n → EReal} {b : Fin m → EReal} {v : Fin n → EReal} (hW : ∀ j k, IsR (W j k)) (hb : ∀ j, IsR (b j))
    (hv : ∀ k, IsR (v k)) (j : Fin m) : IsR (lay W b v j) :=
  (IsR.sum fun k => (hW j k).mul (hv k)).add (hb j)

theorem silu_isR {n : ℕ} {v : Fin n → EReal} (hv : ∀ k, IsR (v k)) (k : Fin n) : IsR (silu v k) := (hv k).mul (hv k).logistic

/-! ## The greatest of a row, and the least index -/

/-- The word of minus infinity is the least extended real. -/
theorem ofBits_neg_inf : Ideal.ofBits .f32 0xFF800000#32 = ⊥ := by simp [Ideal.ofBits, Ideal.ieee]

/-- The greatest of a row. -/
def top {n : ℕ} (z : Fin n → EReal) : EReal := Finset.univ.fold max (Ideal.ofBits .f32 0xFF800000#32) z

theorem top_spec {n : ℕ} [NeZero n] (z : Fin n → EReal) : (∃ i, top z = z i) ∧ ∀ j, z j ≤ top z := by
  have h : top z = Finset.univ.sup z := by unfold top; rw [ofBits_neg_inf]; rfl
  rw [h]
  refine ⟨?_, fun j => Finset.le_sup (Finset.mem_univ j)⟩
  obtain ⟨i, -, hi⟩ := Finset.exists_mem_eq_sup Finset.univ ⟨(0 : Fin n), Finset.mem_univ _⟩ z
  exact ⟨i, hi⟩

/-- The signed minimum of a family of words is one of them or the starting word, and is below each. -/
theorem minsi_spec {ι : Type} [DecidableEq ι] (b : BitVec 32) (f : ι → BitVec 32) (s : Finset ι) :
    (s.fold IntOp.minsi b f = b ∨ ∃ i ∈ s, s.fold IntOp.minsi b f = f i)
    ∧ (s.fold IntOp.minsi b f).toInt ≤ b.toInt ∧ ∀ i ∈ s, (s.fold IntOp.minsi b f).toInt ≤ (f i).toInt := by
  induction s using Finset.induction_on with
  | empty => exact ⟨.inl rfl, le_rfl, fun i hi => absurd hi (Finset.notMem_empty i)⟩
  | insert a s ha ih =>
    rw [Finset.fold_insert ha]
    obtain ⟨h1, h2, h3⟩ := ih
    generalize hw : s.fold IntOp.minsi b f = w at h1 h2 h3
    have key : (IntOp.minsi (f a) w = f a ∧ (f a).toInt ≤ w.toInt) ∨ (IntOp.minsi (f a) w = w ∧ w.toInt ≤ (f a).toInt) := by
      unfold IntOp.minsi
      by_cases hc : (f a).slt w = true
      · left
        have : (f a).toInt < w.toInt := by simpa [BitVec.slt] using hc
        exact ⟨by simp [hc], this.le⟩
      · right
        have : ¬ (f a).toInt < w.toInt := by simpa [BitVec.slt] using hc
        exact ⟨by simp [hc], not_lt.1 this⟩
    rcases key with ⟨e, hle⟩ | ⟨e, hle⟩ <;> rw [e]
    · refine ⟨.inr ⟨a, Finset.mem_insert_self _ _, rfl⟩, hle.trans h2, fun i hi => ?_⟩
      rcases Finset.mem_insert.1 hi with rfl | hi
      · exact le_rfl
      · exact hle.trans (h3 i hi)
    · refine ⟨h1.imp id fun ⟨i, hi, hi'⟩ => ⟨i, Finset.mem_insert_of_mem hi, hi'⟩, h2, fun i hi => ?_⟩
      rcases Finset.mem_insert.1 hi with rfl | hi
      · exact hle
      · exact h3 i hi

theorem toInt_ofNat (k : ℕ) (hk : k ≤ 512) : (BitVec.ofNat 32 k).toInt = k := by
  rw [BitVec.toInt_ofNat', Int.bmod_eq_of_le] <;> omega

/-! ## The kernel's results of a row -/

/-- The kernel's pick: the least index at which the noisy logit is the greatest. -/
def kpick (l g : Fin 512 → EReal) : BitVec 32 :=
  Finset.univ.fold IntOp.minsi 2147483647#32
    (fun x => if l x + g x = top (fun x => l x + g x) then BitVec.ofNat 32 x.val else 512#32)

/-- A logit less the greatest noisy logit. -/
def kd (l g : Fin 512 → EReal) : Fin 512 → EReal := fun x => l x - top (fun x => l x + g x)

/-- The kernel's normaliser. -/
def ks (l g : Fin 512 → EReal) : EReal := ∑ x, Ideal.exp (kd l g x)

/-- The kernel's log-probability of its pick. -/
def klp (l g : Fin 512 → EReal) : EReal :=
  top (fun x => Scalar.select (IntOp.cmpi .eq (BitVec.ofNat 32 x.val) (kpick l g)) (kd l g x) ⊥) - Ideal.log (ks l g)

/-- The kernel's entropy. -/
def kent (l g : Fin 512 → EReal) : EReal :=
  Ideal.log (ks l g) - Ideal.div (∑ x, Ideal.exp (kd l g x) * kd l g x) (ks l g)

/-! ## The reference's results of a row -/

/-- The reference's log-probabilities. -/
def rlogp (l : Fin 512 → EReal) : Fin 512 → EReal := fun j =>
  l j - max (Ideal.ofBits .f32 0xFF800000#32) (top l)
    - Ideal.log (∑ x, Ideal.exp (l x - max (Ideal.ofBits .f32 0xFF800000#32) (top l)))

/-- The reference's entropy. -/
def rent (l : Fin 512 → EReal) : EReal := -∑ x, Ideal.exp (rlogp l x) * rlogp l x

/-- The least index of the greatest noisy logit. -/
def IsPick (l g : Fin 512 → EReal) (k : Fin 512) : Prop :=
  ∀ j, l j + g j < l k + g k ∨ l j + g j = l k + g k ∧ k ≤ j

theorem IsPick.unique {l g : Fin 512 → EReal} {k k' : Fin 512} (h : IsPick l g k) (h' : IsPick l g k') : k = k' := by
  rcases h k' with a | ⟨a, b⟩ <;> rcases h' k with a' | ⟨a', b'⟩
  · exact absurd a' (not_lt.2 a.le)
  · exact absurd a (by rw [a']; exact lt_irrefl _)
  · exact absurd a' (by rw [a]; exact lt_irrefl _)
  · exact le_antisymm b b'

theorem IsPick.top_eq {l g : Fin 512 → EReal} {k : Fin 512} (h : IsPick l g k) : top (fun x => l x + g x) = l k + g k := by
  obtain ⟨⟨i, hi⟩, hle⟩ := top_spec fun x => l x + g x
  refine le_antisymm ?_ (hle k)
  rw [hi]
  rcases h i with a | ⟨a, -⟩
  · exact a.le
  · exact a.le

/-- The kernel's pick is that index. -/
theorem kpick_spec (l g : Fin 512 → EReal) : ∃ k, kpick l g = BitVec.ofNat 32 k.val ∧ IsPick l g k := by
  obtain ⟨⟨i, hi⟩, hle⟩ := top_spec fun x => l x + g x
  obtain ⟨h1, h2, h3⟩ := minsi_spec 2147483647#32
    (fun x : Fin 512 => if l x + g x = top (fun x => l x + g x) then BitVec.ofNat 32 x.val else 512#32) Finset.univ
  have e : Finset.univ.fold IntOp.minsi 2147483647#32
    (fun x : Fin 512 => if l x + g x = top (fun x => l x + g x) then BitVec.ofNat 32 x.val else 512#32) = kpick l g := rfl
  rw [e] at h1 h2 h3
  have hi3 := h3 i (Finset.mem_univ i)
  rw [if_pos hi.symm, toInt_ofNat i.val (by omega)] at hi3
  rcases h1 with h1 | ⟨k, -, h1⟩
  · rw [h1] at hi3
    have : (2147483647#32 : BitVec 32).toInt = 2147483647 := by decide
    omega
  · by_cases hk : l k + g k = top (fun x => l x + g x)
    · rw [if_pos hk] at h1
      refine ⟨k, h1, fun j => ?_⟩
      rcases lt_or_eq_of_le (hle j) with hlt | heq
      · left; rw [hk]; exact hlt
      · right
        refine ⟨heq.trans hk.symm, ?_⟩
        have hj := h3 j (Finset.mem_univ j)
        rw [if_pos heq, h1, toInt_ofNat k.val (by omega), toInt_ofNat j.val (by omega)] at hj
        exact Fin.le_def.2 (by omega)
    · rw [if_neg hk] at h1
      rw [h1] at hi3
      have : (512#32 : BitVec 32).toInt = 512 := by decide
      omega

/-! ## Both results of a row of reals -/

/-- The logarithm of the sum of the exponentials. -/
def lse (a : Fin 512 → ℝ) : ℝ := Real.log (∑ x, Real.exp (a x))

theorem sum_exp_pos (a : Fin 512 → ℝ) : 0 < ∑ x, Real.exp (a x) :=
  Finset.sum_pos (fun x _ => Real.exp_pos _) ⟨0, Finset.mem_univ _⟩

theorem sum_exp_shift (a : Fin 512 → ℝ) (M : ℝ) : ∑ x, Real.exp (a x - M) = Real.exp (-M) * ∑ x, Real.exp (a x) := by
  rw [Finset.mul_sum]
  exact Finset.sum_congr rfl fun x _ => by rw [← Real.exp_add]; ring_nf

theorem log_sum_exp_shift (a : Fin 512 → ℝ) (M : ℝ) : Real.log (∑ x, Real.exp (a x - M)) = lse a - M := by
  rw [sum_exp_shift, Real.log_mul (Real.exp_pos _).ne' (sum_exp_pos a).ne', Real.log_exp, lse]; ring

section
variable {l g : Fin 512 → EReal} {a : Fin 512 → ℝ} {M : ℝ}

theorem sum_exp_coe (a : Fin 512 → ℝ) (M : ℝ) : ∑ x, Ideal.exp (((a x - M : ℝ) : EReal)) = ((∑ x, Real.exp (a x - M) : ℝ) : EReal) := by
  rw [← coe_sum]; rfl

theorem kd_coe (hl : ∀ x, l x = (a x : EReal)) (hM : top (fun x => l x + g x) = (M : EReal)) (x : Fin 512) : kd l g x = ((a x - M : ℝ) : EReal) := by
  unfold kd; rw [hM, hl, EReal.coe_sub]

theorem ks_coe (hl : ∀ x, l x = (a x : EReal)) (hM : top (fun x => l x + g x) = (M : EReal)) : ks l g = ((∑ x, Real.exp (a x - M) : ℝ) : EReal) := by
  unfold ks; simp only [kd_coe hl hM]; exact sum_exp_coe a M

theorem klp_coe (hl : ∀ x, l x = (a x : EReal)) (hM : top (fun x => l x + g x) = (M : EReal)) (k : Fin 512) (hk : kpick l g = BitVec.ofNat 32 k.val) :
    klp l g = ((a k - lse a : ℝ) : EReal) := by
  unfold klp
  have hsel : ∀ x : Fin 512, Scalar.select (IntOp.cmpi .eq (BitVec.ofNat 32 x.val) (kpick l g)) (kd l g x) ⊥ = if x = k then ((a k - M : ℝ) : EReal) else ⊥ := by
    intro x
    rw [hk]
    by_cases h : x = k
    · subst h; rw [if_pos rfl, kd_coe hl hM]; simp [IntOp.cmpi, Scalar.select]
    · rw [if_neg h]
      have : ¬ (BitVec.ofNat 32 x.val = BitVec.ofNat 32 k.val) := fun e => h (Fin.ext (by
        have := congrArg BitVec.toInt e
        rw [toInt_ofNat _ (by omega), toInt_ofNat _ (by omega)] at this
        exact_mod_cast this))
      have hb : (BitVec.ofNat 32 x.val == BitVec.ofNat 32 k.val) = false := beq_eq_false_iff_ne.2 this
      simp [IntOp.cmpi, Scalar.select, hb]
  have htop : top (fun x => Scalar.select (IntOp.cmpi .eq (BitVec.ofNat 32 x.val) (kpick l g)) (kd l g x) ⊥) = ((a k - M : ℝ) : EReal) := by
    simp only [hsel]
    obtain ⟨⟨i, hi⟩, hle⟩ := top_spec fun x : Fin 512 => if x = k then ((a k - M : ℝ) : EReal) else ⊥
    refine le_antisymm ?_ ((if_pos rfl).symm.le.trans (hle k))
    rw [hi]
    split
    · exact le_rfl
    · exact bot_le
  rw [htop, ks_coe hl hM, log_coe _ (sum_exp_pos fun x => a x - M), log_sum_exp_shift, ← EReal.coe_sub]
  refine congrArg Real.toEReal ?_; ring

/-- The mean of the logits under the softmax. -/
def mean (a : Fin 512 → ℝ) : ℝ := (∑ x, Real.exp (a x) * a x) / ∑ x, Real.exp (a x)

theorem kent_coe (hl : ∀ x, l x = (a x : EReal)) (hM : top (fun x => l x + g x) = (M : EReal)) :
    kent l g = ((lse a - mean a : ℝ) : EReal) := by
  unfold kent
  have hS := sum_exp_pos a
  have ht : ∑ x, Ideal.exp (kd l g x) * kd l g x = ((∑ x, Real.exp (a x - M) * (a x - M) : ℝ) : EReal) := by
    rw [← coe_sum]
    exact Finset.sum_congr rfl fun x _ => by rw [kd_coe hl hM, exp_coe, EReal.coe_mul]
  rw [ht, ks_coe hl hM, log_coe _ (sum_exp_pos fun x => a x - M), div_coe _ _ (sum_exp_pos fun x => a x - M).ne', ← EReal.coe_sub, log_sum_exp_shift]
  refine congrArg Real.toEReal ?_
  have e : ∑ x, Real.exp (a x - M) * (a x - M) = Real.exp (-M) * (∑ x, Real.exp (a x) * a x - M * ∑ x, Real.exp (a x)) := by
    rw [Finset.mul_sum, ← Finset.sum_sub_distrib, Finset.mul_sum]
    refine Finset.sum_congr rfl fun x _ => ?_
    rw [sub_eq_add_neg (a x) M, Real.exp_add]; ring
  rw [e, sum_exp_shift, mul_div_mul_left _ _ (Real.exp_pos _).ne', sub_div, mul_div_assoc, div_self hS.ne', mean]
  ring

theorem rlogp_coe (hl : ∀ x, l x = (a x : EReal)) (j : Fin 512) : rlogp l j = ((a j - lse a : ℝ) : EReal) := by
  unfold rlogp
  obtain ⟨⟨i, hi⟩, -⟩ := top_spec l
  have hM : max (Ideal.ofBits .f32 0xFF800000#32) (top l) = (a i : EReal) := by rw [ofBits_neg_inf, hi, hl]; exact max_eq_right bot_le
  rw [hM]
  have : ∀ x, l x - (a i : EReal) = ((a x - a i : ℝ) : EReal) := fun x => by rw [hl, EReal.coe_sub]
  simp only [this]
  rw [sum_exp_coe, log_coe _ (sum_exp_pos fun x => a x - a i), log_sum_exp_shift, ← EReal.coe_sub]
  refine congrArg Real.toEReal ?_; ring

theorem rent_coe (hl : ∀ x, l x = (a x : EReal)) : rent l = ((lse a - mean a : ℝ) : EReal) := by
  unfold rent
  have hS := sum_exp_pos a
  have e : ∑ x, Ideal.exp (rlogp l x) * rlogp l x = ((∑ x, Real.exp (a x - lse a) * (a x - lse a) : ℝ) : EReal) := by
    rw [← coe_sum]
    exact Finset.sum_congr rfl fun x _ => by rw [rlogp_coe hl, exp_coe, EReal.coe_mul]
  rw [e, ← EReal.coe_neg]
  refine congrArg Real.toEReal ?_
  have hx : ∀ x, Real.exp (a x - lse a) = Real.exp (a x) / ∑ x, Real.exp (a x) := fun x => by rw [Real.exp_sub, lse, Real.exp_log hS]
  have e2 : ∑ x, Real.exp (a x - lse a) * (a x - lse a) = (∑ x, Real.exp (a x) * a x - lse a * ∑ x, Real.exp (a x)) / ∑ x, Real.exp (a x) := by
    rw [Finset.mul_sum, ← Finset.sum_sub_distrib, Finset.sum_div]
    refine Finset.sum_congr rfl fun x _ => ?_
    rw [hx]; ring
  rw [e2, sub_div, mul_div_assoc, div_self hS.ne', mean]; ring

end

/-- THE ROW: for real logits and noises, the kernel's log-probability is the reference's at the kernel's pick … -/
theorem klp_eq {l g : Fin 512 → EReal} (hl : ∀ x, IsR (l x)) (hg : ∀ x, IsR (g x)) (k : Fin 512) (hk : kpick l g = BitVec.ofNat 32 k.val) :
    klp l g = rlogp l k := by
  choose a ha using hl
  obtain ⟨⟨i, hi⟩, -⟩ := top_spec fun x => l x + g x
  obtain ⟨M, hM⟩ := IsR.add ⟨a i, ha i⟩ (hg i)
  rw [klp_coe ha (hi.trans hM) k hk, rlogp_coe ha]

/-- … and its entropy is the reference's. -/
theorem kent_eq {l g : Fin 512 → EReal} (hl : ∀ x, IsR (l x)) (hg : ∀ x, IsR (g x)) : kent l g = rent l := by
  choose a ha using hl
  obtain ⟨⟨i, hi⟩, -⟩ := top_spec fun x => l x + g x
  obtain ⟨M, hM⟩ := IsR.add ⟨a i, ha i⟩ (hg i)
  rw [kent_coe ha (hi.trans hM), rent_coe ha]

end Cert.Row

end
-- ==== Proof.Pay.lean ====
/- The kernel body's payloads at one column: each is a function of that column of its operands alone, and it is the row's. -/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Pay

open Cert.KernelIdeal Cert.KernelIdeal.Gen
open Idealize.ShloMosaic

/-- Column `q` of a matrix. -/
abbrev col {n m : ℕ} (A : (⟨2, ![n, m]⟩ : Shape).Idx → EReal) (q : Fin m) : Fin n → EReal := fun j => A (ix2 j q)

/-- A matrix by rows. -/
abbrev mat {n m : ℕ} (A : (⟨2, ![n, m]⟩ : Shape).Idx → EReal) : Fin n → Fin m → EReal := fun j k => A (ix2 j k)

/-- The named constant is minus infinity. -/
theorem named_neg : (Named.named Cert.KernelIdeal.κ "neg" 4284592614#32 : Ideal .f32) = (⊥ : EReal) :=
  IdealRules.named_const.ideal_named_scalar _ _ _ _ rfl

set_option maxHeartbeats 1000000 in
/-- The features, transposed: column `q` is the features of row `q` of `x`. -/
theorem feat_col (x : Vec Ideal S4096x128 .f32) (w1 : Vec Ideal S128x128 .f32) (b1 : Vec Ideal S128x1 .f32) (w2 : Vec Ideal S64x128 .f32)
    (b2 : Vec Ideal S64x1 .f32) (w3 : Vec Ideal S128x64 .f32) (b3 : Vec Ideal S128x1 .f32) (j : Fin 128) (q : Fin 4096) :
    k0_pay2 (F := Ideal) x w1 b1 w2 b2 w3 b3 (ix2 j q)
      = Row.feat (mat w1) (col b1 0) (mat w2) (col b2 0) (mat w3) (col b3 0) (fun k => x (ix2 q k)) j := by
  pointwise [k0_pay2]
  rfl

/-- The logits, transposed. -/
theorem logit_col (x : Vec Ideal S4096x128 .f32) (w1 : Vec Ideal S128x128 .f32) (b1 : Vec Ideal S128x1 .f32) (w2 : Vec Ideal S64x128 .f32)
    (b2 : Vec Ideal S64x1 .f32) (w3 : Vec Ideal S128x64 .f32) (b3 : Vec Ideal S128x1 .f32) (wa : Vec Ideal S512x128 .f32) (ba : Vec Ideal S512x1 .f32)
    (j : Fin 512) (q : Fin 4096) :
    k0_pay3 (F := Ideal) x w1 b1 w2 b2 w3 b3 wa ba (ix2 j q)
      = Row.lay (mat wa) (col ba 0) (col (k0_pay2 (F := Ideal) x w1 b1 w2 b2 w3 b3) q) j := by
  pointwise [k0_pay3]
  rfl

theorem pick_col (L : FVec Ideal S512x4096 .f32) (g : Vec Ideal S1x512x4096 .f32) (q : Fin 4096) :
    k0_pay12 (F := Ideal) L g (ix1 q) = Row.kpick (col L q) (fun j => g (ix3 0 j q)) := by
  pointwise [k0_pay12, k0_pay6, k0_pay5, k0_pay4]
  rfl

theorem lp_col (L : FVec Ideal S512x4096 .f32) (g : Vec Ideal S1x512x4096 .f32) (q : Fin 4096) :
    k0_pay13 (F := Ideal) L g (ix1 q) = Row.klp (col L q) (fun j => g (ix3 0 j q)) := by
  pointwise [k0_pay13, k0_pay11, k0_pay10, k0_pay9, k0_pay8, k0_pay7, k0_pay6, k0_pay5, k0_pay4]
  simp only [named_neg]
  rfl

theorem ent_col (L : FVec Ideal S512x4096 .f32) (g : Vec Ideal S1x512x4096 .f32) (q : Fin 4096) :
    k0_pay14 (F := Ideal) L g (ix1 q) = Row.kent (col L q) (fun j => g (ix3 0 j q)) := by
  pointwise [k0_pay14, k0_pay11, k0_pay10, k0_pay9, k0_pay8, k0_pay7, k0_pay5, k0_pay4]
  rfl

theorem val_col (f : FVec Ideal S128x4096 .f32) (wc : Vec Ideal S1x128 .f32) (bc : Vec Ideal S1x1 .f32) (q : Fin 4096) :
    k0_pay1 (k0_pay15 f wc) (k0_pay16 bc) (ix1 q) = Row.lay (mat wc) (col bc 0) (col f q) 0 := by
  pointwise [k0_pay1, k0_pay15, k0_pay16]
  rfl

end Cert.KernelIdeal.Pay

end
-- ==== Proof.DatsKernelIdeal.lean ====
/- The run of `KernelIdeal` over the extended reals. The last block of `x` overhangs its array, so the rows past the end of
   the staging buffer hold words nothing names. A column of each payload reads one row of `x` only, so the part of every output
   that lies inside its array is the payload over `x` filled out with zeros: that is what the proof data state. -/
module

public import proofs.«01_k».proof.Proof.BodyKernelIdeal
public import proofs.«01_k».proof.Proof.Pay

@[expose] public section

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- `x`'s block filled out with zeros past the array's end. -/
def xfill (c : Dev nD) (t : Fin cfg0.N) : Vec Ideal S4096x128 .f32 :=
  win0_0.fill (grid0.coords t) (fun _ => (0 : EReal)) (iblk m c 0 t)

/-- The features of a block of `x`, transposed. -/
def fblk (c : Dev nD) (t : Fin cfg0.N) (x : Vec Ideal S4096x128 .f32) : FVec Ideal S128x4096 .f32 :=
  k0_pay2 x (iblk m c 2 t) (iblk m c 3 t) (iblk m c 4 t) (iblk m c 5 t) (iblk m c 6 t) (iblk m c 7 t)

/-- The logits of a block of `x`, transposed. -/
def lblk (c : Dev nD) (t : Fin cfg0.N) (x : Vec Ideal S4096x128 .f32) : FVec Ideal S512x4096 .f32 :=
  k0_pay3 x (iblk m c 2 t) (iblk m c 3 t) (iblk m c 4 t) (iblk m c 5 t) (iblk m c 6 t) (iblk m c 7 t) (iblk m c 8 t) (iblk m c 9 t)

/-- The four results of a block of `x`. -/
def pickb (c : Dev nD) (t : Fin cfg0.N) (x : Vec Ideal S4096x128 .f32) : Vec Ideal S4096 .i32 := k0_pay12 (lblk m c t x) (iblk m c 1 t)
def logpb (c : Dev nD) (t : Fin cfg0.N) (x : Vec Ideal S4096x128 .f32) : Vec Ideal S4096 .f32 := k0_pay13 (lblk m c t x) (iblk m c 1 t)
def entb (c : Dev nD) (t : Fin cfg0.N) (x : Vec Ideal S4096x128 .f32) : Vec Ideal S4096 .f32 := k0_pay14 (lblk m c t x) (iblk m c 1 t)
def valb (c : Dev nD) (t : Fin cfg0.N) (x : Vec Ideal S4096x128 .f32) : Vec Ideal S4096 .f32 :=
  k0_pay1 (k0_pay15 (fblk m c t x) (iblk m c 10 t)) (k0_pay16 (iblk m c 11 t))

/-- One row's features and logits, by the weights that the blocks hold. -/
def frowb (c : Dev nD) (t : Fin cfg0.N) (x : Fin 128 → EReal) : Fin 128 → EReal :=
  Row.feat (mat (n := 128) (m := 128) (iblk m c 2 t)) (col (n := 128) (m := 1) (iblk m c 3 t) 0) (mat (n := 64) (m := 128) (iblk m c 4 t))
    (col (n := 64) (m := 1) (iblk m c 5 t) 0) (mat (n := 128) (m := 64) (iblk m c 6 t)) (col (n := 128) (m := 1) (iblk m c 7 t) 0) x
def lrowb (c : Dev nD) (t : Fin cfg0.N) (x : Fin 128 → EReal) : Fin 512 → EReal :=
  Row.lay (mat (n := 512) (m := 128) (iblk m c 8 t)) (col (n := 512) (m := 1) (iblk m c 9 t) 0) (frowb m c t x)
/-- The noise of one column of a block. -/
def growb (c : Dev nD) (t : Fin cfg0.N) (q : Fin 4096) : Fin 512 → EReal := fun j => (iblk m c 1 t : Vec Ideal S1x512x4096 .f32) (ix3 0 j q)

theorem fblk_col (c : Dev nD) (t : Fin cfg0.N) (x : Vec Ideal S4096x128 .f32) (q : Fin 4096) :
    col (n := 128) (m := 4096) (fblk m c t x) q = frowb m c t (fun k => x (ix2 q k)) :=
  funext fun j => feat_col x _ _ _ _ _ _ j q

theorem lblk_col (c : Dev nD) (t : Fin cfg0.N) (x : Vec Ideal S4096x128 .f32) (q : Fin 4096) :
    col (n := 512) (m := 4096) (lblk m c t x) q = lrowb m c t (fun k => x (ix2 q k)) :=
  funext fun j => (logit_col x _ _ _ _ _ _ _ _ j q).trans (congrArg (fun v => Row.lay _ _ v j) (fblk_col m c t x q))

theorem pickb_at (c : Dev nD) (t : Fin cfg0.N) (x : Vec Ideal S4096x128 .f32) (q : Fin 4096) :
    pickb m c t x (ix1 q) = Row.kpick (lrowb m c t fun k => x (ix2 q k)) (growb m c t q) :=
  (pick_col _ _ q).trans (congrArg (fun v => Row.kpick v _) (lblk_col m c t x q))

theorem logpb_at (c : Dev nD) (t : Fin cfg0.N) (x : Vec Ideal S4096x128 .f32) (q : Fin 4096) :
    logpb m c t x (ix1 q) = Row.klp (lrowb m c t fun k => x (ix2 q k)) (growb m c t q) :=
  (lp_col _ _ q).trans (congrArg (fun v => Row.klp v _) (lblk_col m c t x q))

theorem entb_at (c : Dev nD) (t : Fin cfg0.N) (x : Vec Ideal S4096x128 .f32) (q : Fin 4096) :
    entb m c t x (ix1 q) = Row.kent (lrowb m c t fun k => x (ix2 q k)) (growb m c t q) :=
  (ent_col _ _ q).trans (congrArg (fun v => Row.kent v _) (lblk_col m c t x q))

theorem valb_at (c : Dev nD) (t : Fin cfg0.N) (x : Vec Ideal S4096x128 .f32) (q : Fin 4096) :
    valb m c t x (ix1 q) = Row.lay (mat (n := 1) (m := 128) (iblk m c 10 t)) (col (n := 1) (m := 1) (iblk m c 11 t) 0) (frowb m c t fun k => x (ix2 q k)) 0 :=
  (val_col _ _ _ q).trans (congrArg (fun v => Row.lay _ _ v 0) (fblk_col m c t x q))

/-- The proof data: every input's buffer at its block, the outputs' at the payloads over the filled-out `x`. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => pickb m c t (xfill m c t)
    | ⟨13, _⟩ => logpb m c t (xfill m c t)
    | ⟨14, _⟩ => entb m c t (xfill m c t)
    | ⟨15, _⟩ => valb m c t (xfill m c t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

/-- `x`'s buffer as the body finds it: its block on the rows inside the array, anything past them. -/
theorem before_x (c : Dev nD) (t : Fin cfg0.N) (d) :
    (dats m 0 c).before 0 t d = win0_0.fill (grid0.coords t) d (iblk m c 0 t) := by
  unfold Dat.before; rw [if_pos (fetch0_0 t)]; rfl

/-- `x`'s block does not depend, on the rows inside the array, on what the buffer held past them. -/
theorem fill_row (c : Dev nD) (t : Fin cfg0.N) (d : Vec Ideal S4096x128 .f32) (q : Fin 4096) (hq : q.val < win0_0.xsize (grid0.coords t) 0) (k : Fin 128) :
    (win0_0.fill (grid0.coords t) d (iblk m c 0 t) : Vec Ideal S4096x128 .f32) (ix2 q k) = xfill m c t (ix2 q k) := by
  have hk : k.val < win0_0.xsize (grid0.coords t) 1 := by
    rw [(by decide +kernel : ∀ t : Fin grid0.N, win0_0.xsize (grid0.coords t) 1 = 128) t]; exact k.isLt
  let z : (win0_0.xblock (grid0.coords t)).Idx := fun a => match a with
    | ⟨0, _⟩ => ⟨q.val, hq⟩
    | ⟨1, _⟩ => ⟨k.val, hk⟩
  have hz : win0_0.xinj (grid0.coords t) z = (ix2 q k : S4096x128.Idx) := by
    funext a
    match a with
    | ⟨0, _⟩ => rfl
    | ⟨1, _⟩ => rfl
  have h1 := win0_0.fill_xinj (grid0.coords t) d (iblk m c 0 t) z
  have h2 := win0_0.fill_xinj (grid0.coords t) (fun _ => (0 : EReal)) (iblk m c 0 t) z
  rw [hz] at h1 h2
  exact h1.trans h2.symm

theorem xsize_12 : ∀ t : Fin grid0.N, win0_12.xsize (grid0.coords t) 0 = win0_0.xsize (grid0.coords t) 0 := by decide +kernel
theorem xsize_13 : ∀ t : Fin grid0.N, win0_13.xsize (grid0.coords t) 0 = win0_0.xsize (grid0.coords t) 0 := by decide +kernel
theorem xsize_14 : ∀ t : Fin grid0.N, win0_14.xsize (grid0.coords t) 0 = win0_0.xsize (grid0.coords t) 0 := by decide +kernel
theorem xsize_15 : ∀ t : Fin grid0.N, win0_15.xsize (grid0.coords t) 0 = win0_0.xsize (grid0.coords t) 0 := by decide +kernel

theorem row_eq (c : Dev nD) (t : Fin cfg0.N) (d : Vec Ideal S4096x128 .f32) (q : Fin 4096) (hq : q.val < win0_0.xsize (grid0.coords t) 0) :
    (fun k : Fin 128 => (win0_0.fill (grid0.coords t) d (iblk m c 0 t) : Vec Ideal S4096x128 .f32) (ix2 q k)) = fun k => xfill m c t (ix2 q k) :=
  funext fun k => fill_row m c t d q hq k

/-- Contents that agree on the part that a transfer moves: the one is itself with that part of the other put in. -/
theorem fill_agree (w : Window sig grid0) (i : grid0.Coords) {α : Type} (A B : w.block.Idx → α) (h : ∀ y, A (w.xinj i y) = B (w.xinj i y)) :
    A = w.fill i A (w.cut i B) := by
  rw [show w.cut i B = w.cut i A from funext fun y => (h y).symm, w.fill_cut]

/-- A result whose every entry reads one row of `x` is, on the rows inside the array, the result over the filled-out `x`. -/
theorem agree {α : Type} (c : Dev nD) (t : Fin cfg0.N) (B : Vec Ideal S4096x128 .f32 → S4096.Idx → α) (R : Fin 4096 → (Fin 128 → EReal) → α)
    (hB : ∀ (x : Vec Ideal S4096x128 .f32) (q : Fin 4096), B x (ix1 q) = R q (fun k => x (ix2 q k)))
    (d : Vec Ideal S4096x128 .f32) (y : S4096.Idx) (hy : (y 0).val < win0_0.xsize (grid0.coords t) 0) :
    B (win0_0.fill (grid0.coords t) d (iblk m c 0 t)) y = B (xfill m c t) y := by
  obtain ⟨q, hq, hv⟩ : ∃ q : Fin 4096, y = (ix1 q : S4096.Idx) ∧ q.val = (y 0).val := ⟨y 0, eq_ix1 (n0 := 4096) y, rfl⟩
  rw [hq, hB, hB, row_eq m c t d q (by rw [hv]; exact hy)]

theorem cut_pickb (c : Dev nD) (t : Fin cfg0.N) (d : Vec Ideal S4096x128 .f32) :
    pickb m c t (win0_0.fill (grid0.coords t) d (iblk m c 0 t))
      = win0_12.fill (grid0.coords t) (pickb m c t (win0_0.fill (grid0.coords t) d (iblk m c 0 t))) (win0_12.cut (grid0.coords t) (pickb m c t (xfill m c t))) :=
  fill_agree win0_12 _ _ _ fun y => agree m c t (pickb m c t) (fun q x => Row.kpick (lrowb m c t x) (growb m c t q)) (fun x q => pickb_at m c t x q) d _
    (lt_of_lt_of_eq (y 0).isLt (xsize_12 t))

theorem cut_logpb (c : Dev nD) (t : Fin cfg0.N) (d : Vec Ideal S4096x128 .f32) :
    logpb m c t (win0_0.fill (grid0.coords t) d (iblk m c 0 t))
      = win0_13.fill (grid0.coords t) (logpb m c t (win0_0.fill (grid0.coords t) d (iblk m c 0 t))) (win0_13.cut (grid0.coords t) (logpb m c t (xfill m c t))) :=
  fill_agree win0_13 _ _ _ fun y => agree m c t (logpb m c t) (fun q x => Row.klp (lrowb m c t x) (growb m c t q)) (fun x q => logpb_at m c t x q) d _
    (lt_of_lt_of_eq (y 0).isLt (xsize_13 t))

theorem cut_entb (c : Dev nD) (t : Fin cfg0.N) (d : Vec Ideal S4096x128 .f32) :
    entb m c t (win0_0.fill (grid0.coords t) d (iblk m c 0 t))
      = win0_14.fill (grid0.coords t) (entb m c t (win0_0.fill (grid0.coords t) d (iblk m c 0 t))) (win0_14.cut (grid0.coords t) (entb m c t (xfill m c t))) :=
  fill_agree win0_14 _ _ _ fun y => agree m c t (entb m c t) (fun q x => Row.kent (lrowb m c t x) (growb m c t q)) (fun x q => entb_at m c t x q) d _
    (lt_of_lt_of_eq (y 0).isLt (xsize_14 t))

theorem cut_valb (c : Dev nD) (t : Fin cfg0.N) (d : Vec Ideal S4096x128 .f32) :
    valb m c t (win0_0.fill (grid0.coords t) d (iblk m c 0 t))
      = win0_15.fill (grid0.coords t) (valb m c t (win0_0.fill (grid0.coords t) d (iblk m c 0 t))) (win0_15.cut (grid0.coords t) (valb m c t (xfill m c t))) :=
  fill_agree win0_15 _ _ _ fun y => agree m c t (valb m c t) (fun q x => Row.lay (mat (n := 1) (m := 128) (iblk m c 10 t)) (col (n := 1) (m := 1) (iblk m c 11 t) 0) (frowb m c t x) 0) (fun x q => valb_at m c t x q) d _
    (lt_of_lt_of_eq (y 0).isLt (xsize_15 t))

end Cert.KernelIdeal.Run

end
-- ==== Proof.RunKernelIdeal.lean ====
/- The run of `KernelIdeal` over the extended reals: the body obligation of the proof data, the run's post and the frame. -/
module

public import proofs.«01_k».proof.Proof.DatsKernelIdeal

@[expose] public section

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The payloads as the body's triple spells them. -/
theorem pickb_eq (c : Dev nD) (t : Fin cfg0.N) (x : Vec Ideal S4096x128 .f32) :
    k0_pay12 (k0_pay3 x (iblk m c 2 t) (iblk m c 3 t) (iblk m c 4 t) (iblk m c 5 t) (iblk m c 6 t) (iblk m c 7 t) (iblk m c 8 t) (iblk m c 9 t)) (iblk m c 1 t) = pickb m c t x := rfl

theorem logpb_eq (c : Dev nD) (t : Fin cfg0.N) (x : Vec Ideal S4096x128 .f32) :
    k0_pay13 (k0_pay3 x (iblk m c 2 t) (iblk m c 3 t) (iblk m c 4 t) (iblk m c 5 t) (iblk m c 6 t) (iblk m c 7 t) (iblk m c 8 t) (iblk m c 9 t)) (iblk m c 1 t) = logpb m c t x := rfl

theorem entb_eq (c : Dev nD) (t : Fin cfg0.N) (x : Vec Ideal S4096x128 .f32) :
    k0_pay14 (k0_pay3 x (iblk m c 2 t) (iblk m c 3 t) (iblk m c 4 t) (iblk m c 5 t) (iblk m c 6 t) (iblk m c 7 t) (iblk m c 8 t) (iblk m c 9 t)) (iblk m c 1 t) = entb m c t x := rfl

theorem valb_eq (c : Dev nD) (t : Fin cfg0.N) (x : Vec Ideal S4096x128 .f32) :
    k0_pay1 (k0_pay15 (k0_pay2 x (iblk m c 2 t) (iblk m c 3 t) (iblk m c 4 t) (iblk m c 5 t) (iblk m c 6 t) (iblk m c 7 t)) (iblk m c 10 t)) (k0_pay16 (iblk m c 11 t)) = valb m c t x := rfl

attribute [local irreducible] pickb logpb entb valb

theorem owns_of_eq {c : Dev nD} {sp : Space} {S : Shape} {e : EltTy} {b : Memref sig .tc sp S e} {X Y : Vec Ideal S e} (h : X = Y) :
    (owns (c : Thread nD τ) b fullShare X : sProp 𝕄) ⊢ owns (c : Thread nD τ) b fullShare Y := h ▸ .rfl

theorem owns_pickb (c : Dev nD) (t : Fin cfg0.N) (d : Vec Ideal S4096x128 .f32) :
    (owns (c : Thread nD τ) (st0_12 t) fullShare
        (k0_pay12 (k0_pay3 (win0_0.fill (grid0.coords t) d (iblk m c 0 t)) (iblk m c 2 t) (iblk m c 3 t) (iblk m c 4 t) (iblk m c 5 t) (iblk m c 6 t) (iblk m c 7 t) (iblk m c 8 t) (iblk m c 9 t)) (iblk m c 1 t)) : sProp 𝕄)
      ⊢ iprop(∃ d, owns (c : Thread nD τ) (st0_12 t) fullShare (win0_12.fill (grid0.coords t) d (win0_12.cut (grid0.coords t) (pickb m c t (xfill m c t))))) :=
  exists_intro_trans (pickb m c t (win0_0.fill (grid0.coords t) d (iblk m c 0 t))) (owns_of_eq ((pickb_eq m c t _).trans (cut_pickb m c t d)))

theorem owns_logpb (c : Dev nD) (t : Fin cfg0.N) (d : Vec Ideal S4096x128 .f32) :
    (owns (c : Thread nD τ) (st0_13 t) fullShare
        (k0_pay13 (k0_pay3 (win0_0.fill (grid0.coords t) d (iblk m c 0 t)) (iblk m c 2 t) (iblk m c 3 t) (iblk m c 4 t) (iblk m c 5 t) (iblk m c 6 t) (iblk m c 7 t) (iblk m c 8 t) (iblk m c 9 t)) (iblk m c 1 t)) : sProp 𝕄)
      ⊢ iprop(∃ d, owns (c : Thread nD τ) (st0_13 t) fullShare (win0_13.fill (grid0.coords t) d (win0_13.cut (grid0.coords t) ((dats m 0 c).after 13 t)))) :=
  exists_intro_trans (logpb m c t (win0_0.fill (grid0.coords t) d (iblk m c 0 t))) (owns_of_eq ((logpb_eq m c t _).trans (cut_logpb m c t d)))

theorem owns_entb (c : Dev nD) (t : Fin cfg0.N) (d : Vec Ideal S4096x128 .f32) :
    (owns (c : Thread nD τ) (st0_14 t) fullShare
        (k0_pay14 (k0_pay3 (win0_0.fill (grid0.coords t) d (iblk m c 0 t)) (iblk m c 2 t) (iblk m c 3 t) (iblk m c 4 t) (iblk m c 5 t) (iblk m c 6 t) (iblk m c 7 t) (iblk m c 8 t) (iblk m c 9 t)) (iblk m c 1 t)) : sProp 𝕄)
      ⊢ iprop(∃ d, owns (c : Thread nD τ) (st0_14 t) fullShare (win0_14.fill (grid0.coords t) d (win0_14.cut (grid0.coords t) ((dats m 0 c).after 14 t)))) :=
  exists_intro_trans (entb m c t (win0_0.fill (grid0.coords t) d (iblk m c 0 t))) (owns_of_eq ((entb_eq m c t _).trans (cut_entb m c t d)))

theorem owns_valb (c : Dev nD) (t : Fin cfg0.N) (d : Vec Ideal S4096x128 .f32) :
    (owns (c : Thread nD τ) (st0_15 t) fullShare
        (k0_pay1 (k0_pay15 (k0_pay2 (win0_0.fill (grid0.coords t) d (iblk m c 0 t)) (iblk m c 2 t) (iblk m c 3 t) (iblk m c 4 t) (iblk m c 5 t) (iblk m c 6 t) (iblk m c 7 t)) (iblk m c 10 t)) (k0_pay16 (iblk m c 11 t))) : sProp 𝕄)
      ⊢ iprop(∃ d, owns (c : Thread nD τ) (st0_15 t) fullShare (win0_15.fill (grid0.coords t) d (win0_15.cut (grid0.coords t) ((dats m 0 c).after 15 t)))) :=
  exists_intro_trans (valb m c t (win0_0.fill (grid0.coords t) d (iblk m c 0 t))) (owns_of_eq ((valb_eq m c t _).trans (cut_valb m c t d)))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ d, owns (c : Thread nD τ) (st0_12 t) fullShare (win0_12.fill (grid0.coords t) d (win0_12.cut (grid0.coords t) (pickb m c t (xfill m c t)))))
    ∗ (∃ d, owns (c : Thread nD τ) (st0_13 t) fullShare (win0_13.fill (grid0.coords t) d (win0_13.cut (grid0.coords t) ((dats m 0 c).after 13 t))))
    ∗ (∃ d, owns (c : Thread nD τ) (st0_14 t) fullShare (win0_14.fill (grid0.coords t) d (win0_14.cut (grid0.coords t) ((dats m 0 c).after 14 t))))
    ∗ (∃ d, owns (c : Thread nD τ) (st0_15 t) fullShare (win0_15.fill (grid0.coords t) d (win0_15.cut (grid0.coords t) ((dats m 0 c).after 15 t)))))

set_option maxHeartbeats 2000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_x m c t, before0_1_of m (dats m 0 c) (A_eq m c 1) (fun _ => rfl) t, before0_2_of m (dats m 0 c) (A_eq m c 2) (fun _ => rfl) t,
    before0_3_of m (dats m 0 c) (A_eq m c 3) (fun _ => rfl) t, before0_4_of m (dats m 0 c) (A_eq m c 4) (fun _ => rfl) t,
    before0_5_of m (dats m 0 c) (A_eq m c 5) (fun _ => rfl) t, before0_6_of m (dats m 0 c) (A_eq m c 6) (fun _ => rfl) t,
    before0_7_of m (dats m 0 c) (A_eq m c 7) (fun _ => rfl) t, before0_8_of m (dats m 0 c) (A_eq m c 8) (fun _ => rfl) t,
    before0_9_of m (dats m 0 c) (A_eq m c 9) (fun _ => rfl) t, before0_10_of m (dats m 0 c) (A_eq m c 10) (fun _ => rfl) t,
    before0_11_of m (dats m 0 c) (A_eq m c 11) (fun _ => rfl) t]
  rw [show (dats m 0 c).Φ t.succ = (dats m 0 c).Φ t.castSucc from rfl,
    show (dats m 0 c).owesAt () t.succ = (dats m 0 c).owesAt () t.castSucc from rfl,
    show win0_0.cut (grid0.coords t) ((dats m 0 c).after 0 t) = iblk m c 0 t from win0_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩⟩
  iapply (triple c Set.univ (grid0.coords t) _ _ _ _ _ _ _ _ _ _ _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t)
    (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iapply (owns_pickb m c t d0); iexact H12
  isplitl [H13]
  · iapply (owns_logpb m c t d0); iexact H13
  isplitl [H14]
  · iapply (owns_entb m c t d0); iexact H14
  iapply (owns_valb m c t d0); iexact H15

theorem body_obligation (c : Dev nD) : BodyObligationLoose (dats m 0 c) (defs₀ (F := Ideal)) Variants.none () Set.univ := fun t => by
  rw [bigSep_W0, bigSep_W0]
  exact triple_restated (sound_body m c t) rfl .rfl fun _ => .rfl

set_option backward.isDefEq.respectTransparency.types false in
/-- The run: every array at what the write-backs leave in it, and the counters at zero. -/
theorem run : θ_run defs (onTc (τ := τ) (main (F := Ideal))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)
    (Q' := fun r => Pipeline.FramePost cfgs (dats m) 0 (V m) r ∧ r.2.sem = fun _ => 0)
    (hQ' := fun _ h => h)

/-- A run that ends in the pipeline's post leaves the arguments as they were. -/
theorem kept {r : PUnit × MemSt nD τ sig (Elt Ideal)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c)⟩

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => kept m h.1 c, h.2⟩) (run m ρ)

end Cert.KernelIdeal.Run

end
-- ==== Proof.RefRun.lean ====
/- The run of the reference, host operations only: what each result holds, as arrays over the arguments. -/
module

public import proofs.«01_k».proof.Defs
public import proofs.«01_k».proof.Proof.Gen.ReferenceIdeal
public import Idealize.ShloMosaic.Lib.Claim

@[expose] public section

set_option maxRecDepth 16384

noncomputable section

namespace Cert.ReferenceIdeal.Run

open Cert.ReferenceIdeal
open Idealize.ShloMosaic Idealize.ShloMosaic.TcCoe
open Idealize.SL.Sem

local notation "HF" => Cert.ReferenceIdeal.Gen.facts

/-- The first layer's activations. -/
def act1 (x : FVec Ideal S50000x128 .f32) (W1 : FVec Ideal S128x128 .f32) (b1 : FVec Ideal S128 .f32) : FVec Ideal S50000x128 .f32 :=
  have h : FVec Ideal S50000x128 .f32 := addf (Host.dotGeneral dot_S50000x128_S128x128_S50000x128_1_0_0_1_n_n none x W1)
    (broadcastInDim S50000x128 ![0, 1] Gen.bcast_S1x128_S50000x128_0_1 (broadcastInDim S1x128 ![1] Gen.bcast_S128_S1x128_1 b1))
  mulf h (Host.divf (broadcastInDim S50000x128 ![] Gen.bcast_S_S50000x128 (constant S_ .f32 0x3F800000#32))
    (addf (broadcastInDim S50000x128 ![] Gen.bcast_S_S50000x128 (constant S_ .f32 0x3F800000#32)) (Host.exp (Host.negf h))))

/-- The second layer's activations. -/
def act2 (a : FVec Ideal S50000x128 .f32) (W2 : FVec Ideal S128x64 .f32) (b2 : FVec Ideal S64 .f32) : FVec Ideal S50000x64 .f32 :=
  have h : FVec Ideal S50000x64 .f32 := addf (Host.dotGeneral dot_S50000x128_S128x64_S50000x64_1_0_0_1_n_n none a W2)
    (broadcastInDim S50000x64 ![0, 1] Gen.bcast_S1x64_S50000x64_0_1 (broadcastInDim S1x64 ![1] Gen.bcast_S64_S1x64_1 b2))
  mulf h (Host.divf (broadcastInDim S50000x64 ![] Gen.bcast_S_S50000x64 (constant S_ .f32 0x3F800000#32))
    (addf (broadcastInDim S50000x64 ![] Gen.bcast_S_S50000x64 (constant S_ .f32 0x3F800000#32)) (Host.exp (Host.negf h))))

/-- The features. -/
def feat (a : FVec Ideal S50000x64 .f32) (W3 : FVec Ideal S64x128 .f32) (b3 : FVec Ideal S128 .f32) : FVec Ideal S50000x128 .f32 :=
  addf (Host.dotGeneral dot_S50000x64_S64x128_S50000x128_1_0_0_1_n_n none a W3)
    (broadcastInDim S50000x128 ![0, 1] Gen.bcast_S1x128_S50000x128_0_1 (broadcastInDim S1x128 ![1] Gen.bcast_S128_S1x128_1 b3))

/-- The masked logits. -/
def logits (mask : IVec S50000x512 1) (f : FVec Ideal S50000x128 .f32) (Wa : FVec Ideal S128x512 .f32) (ba : FVec Ideal S512 .f32) :
    FVec Ideal S50000x512 .f32 :=
  select mask (addf (Host.dotGeneral dot_S50000x128_S128x512_S50000x512_1_0_0_1_n_n none f Wa)
    (broadcastInDim S50000x512 ![0, 1] Gen.bcast_S1x512_S50000x512_0_1 (broadcastInDim S1x512 ![1] Gen.bcast_S512_S1x512_1 ba)))
    (broadcastInDim S50000x512 ![] Gen.bcast_S_S50000x512 (constant S_ .f32 0xFF7FFFFF#32))

/-- The place of each row's greatest entry, by the reference's pairwise search. -/
def search {N : ℕ} (x : FVec Ideal ⟨2, ![N, 512]⟩ .f32) (y : IVec ⟨2, ![N, 512]⟩ 32) (i0 : FVec Ideal S_ .f32) (j0 : IVec S_ 32)
    (h : Shape.ReducesTo ⟨2, ![N, 512]⟩ [1] ⟨1, ![N]⟩) (hu : 0 < S_.numel) : IVec ⟨1, ![N]⟩ 32 :=
  fun j => (Host.argReduce (reducer_argmax_f32_i32 (F := Ideal)) x y i0 j0 h hu j).2

/-- The sampled index: the place of the greatest noisy logit. -/
def pick (l g : FVec Ideal S50000x512 .f32) : IVec S50000 32 :=
  search (addf l g) (iotaInDim S50000x512 32 1) (constant S_ .f32 0xFF800000#32) (constantI S_ 32 0#32)
    Gen.reducesTo_S50000x512_S50000_d1 Gen.h_S_

/-- The logits less their row's greatest. -/
def shifted (l : FVec Ideal S50000x512 .f32) : FVec Ideal S50000x512 .f32 :=
  subf l (broadcastInDim S50000x512 ![0, 1] Gen.bcast_S50000x1_S50000x512_0_1 (broadcastInDim S50000x1 ![0] Gen.bcast_S50000_S50000x1_0
    (maximumf (broadcastInDim S50000 ![] Gen.bcast_S_S50000 (constant S_ .f32 0xFF800000#32))
      (Host.reduce FloatOps.maximumf l (constant S_ .f32 0xFF800000#32) Gen.reducesTo_S50000x512_S50000_d1 Gen.h_S_))))

/-- The log-probabilities. -/
def logp (l : FVec Ideal S50000x512 .f32) : FVec Ideal S50000x512 .f32 :=
  subf (shifted l) (broadcastInDim S50000x512 ![0, 1] Gen.bcast_S50000x1_S50000x512_0_1 (Host.log (broadcastInDim S50000x1 ![0] Gen.bcast_S50000_S50000x1_0
    (Host.reduceAdd (Host.exp (shifted l)) (constant S_ .f32 0x00000000#32) Gen.reducesTo_S50000x512_S50000_d1 Gen.h_S_))))

/-- The index counted from the end when it is negative, as a start index of the gather. -/
def start (i : IVec S50000 32) : IVec S50000x1x1 32 :=
  have j : IVec S50000x1 32 := broadcastInDim S50000x1 ![0] Gen.bcast_S50000_S50000x1_0 i
  shapeCast S50000x1x1 (select (cmpi .slt j (broadcastInDim S50000x1 ![] Gen.bcast_S_S50000x1 (constantI S_ 32 0#32)))
    (addi j (broadcastInDim S50000x1 ![] Gen.bcast_S_S50000x1 (constantI S_ 32 512#32))) j) Gen.shapeCasts_S50000x1_S50000x1x1

/-- Each row of `p` at its index, where the index is in range. -/
def taken (p : FVec Ideal S50000x512 .f32) (s : IVec S50000x1x1 32) : FVec Ideal S50000 .f32 :=
  shapeCast S50000 (select (Host.reduce IntOp.andi
      (andi (cmpi .sge s (broadcastInDim S50000x1x1 ![] Gen.bcast_S_S50000x1x1 (constantI S_ 32 0#32)))
        (cmpi .sle s (broadcastInDim S50000x1x1 ![0, 1, 2] Gen.bcast_S1x1x1_S50000x1x1_0_1_2
          (broadcastInDim S1x1x1 ![2] Gen.bcast_S1_S1x1x1_2 (constantI S1 32 511#32)))))
      (constantI S_ 1 1#1) Gen.reducesTo_S50000x1x1_S50000x1_d2 Gen.h_S_)
    (Host.gather gather_S50000x512_S50000x1x1_S50000x1_n_1_0_0_1_2_11 p s)
    (broadcastInDim S50000x1 ![] Gen.bcast_S_S50000x1 (constant S_ .f32 0x7FC00000#32))) Gen.shapeCasts_S50000x1_S50000

/-- The entropy over the unmasked. -/
def entropy (mask : IVec S50000x512 1) (p : FVec Ideal S50000x512 .f32) : FVec Ideal S50000 .f32 :=
  Host.negf (Host.reduceAdd (select mask (mulf (Host.exp p) p) (broadcastInDim S50000x512 ![] Gen.bcast_S_S50000x512 (constant S_ .f32 0x00000000#32)))
    (constant S_ .f32 0x00000000#32) Gen.reducesTo_S50000x512_S50000_d1 Gen.h_S_)

/-- The critic's value. -/
def value (f : FVec Ideal S50000x128 .f32) (Wc : FVec Ideal S128x1 .f32) (bc : FVec Ideal S1 .f32) : FVec Ideal S50000 .f32 :=
  shapeCast S50000 (addf (Host.dotGeneral dot_S50000x128_S128x1_S50000x1_1_0_0_1_n_n none f Wc)
    (broadcastInDim S50000x1 ![0, 1] Gen.bcast_S1x1_S50000x1_0_1 (broadcastInDim S1x1 ![1] Gen.bcast_S1_S1x1_1 bc))) Gen.shapeCasts_S50000x1_S50000

variable (m : (ℓ : Loc nD τ sig) → Buf (Elt Ideal) ℓ) (g : Dev nD → PrngReg)

/-- The features over the arguments. -/
def F (c : Dev nD) : FVec Ideal S50000x128 .f32 :=
  feat (act2 (act1 (m ((c.tc : Thread nD τ).loc main_arg0)) (m ((c.tc : Thread nD τ).loc main_arg2)) (m ((c.tc : Thread nD τ).loc main_arg3)))
    (m ((c.tc : Thread nD τ).loc main_arg4)) (m ((c.tc : Thread nD τ).loc main_arg5)))
    (m ((c.tc : Thread nD τ).loc main_arg6)) (m ((c.tc : Thread nD τ).loc main_arg7))

/-- The masked logits over the arguments. -/
def L (c : Dev nD) : FVec Ideal S50000x512 .f32 :=
  logits (m ((c.tc : Thread nD τ).loc main_arg1)) (F m c) (m ((c.tc : Thread nD τ).loc main_arg8)) (m ((c.tc : Thread nD τ).loc main_arg9))

set_option maxHeartbeats 4000000 in
/-- The run: the four results over the arguments, and the arguments unchanged. -/
theorem run : θ_run (defs (F := Ideal)) (onTc (τ := τ) (main (F := Ideal))) ⟨m, fun _ => 0, g⟩ (fun r => ∀ c : Dev nD,
      r.2.mem ((c.tc : Thread nD τ).loc main_v32) = pick (L m c) (m ((c.tc : Thread nD τ).loc main_arg12))
      ∧ r.2.mem ((c.tc : Thread nD τ).loc main_v36) = taken (logp (L m c)) (start (pick (L m c) (m ((c.tc : Thread nD τ).loc main_arg12))))
      ∧ r.2.mem ((c.tc : Thread nD τ).loc main_v41) = entropy (m ((c.tc : Thread nD τ).loc main_arg1)) (logp (L m c))
      ∧ r.2.mem ((c.tc : Thread nD τ).loc main_v46) = value (F m c) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  hlo_run
  all_goals try simp -implicitDefEqProofs only [StableHlo.TRef.toBuf, StableHlo.TRef.ofBuf, cast_cast, cast_eq]
  · rfl
  · rfl
  · rfl
  · rfl

theorem frame : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run _ _ _).mono (fun r h => ⟨fun c => (h c).2.2.2.2, sem_eq_zero_of_no_sems (by decide) r.2⟩) (run m g)

end Cert.ReferenceIdeal.Run

end
-- ==== Proof.Entry.lean ====
/- What the kernel's arrays hold when its region is entered, at an index: the transposed weights, the biases as columns, and
   the noise in blocks of columns. -/
module

public import proofs.«01_k».proof.Proof.Gen.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Entry

open Cert.KernelIdeal Cert.KernelIdeal.Gen
open Idealize.ShloMosaic Idealize.ShloMosaic.TcCoe

variable (m : (ℓ : Loc nD τ sig) → Buf (Elt Ideal) ℓ) (c : Dev nD)

theorem w1 (j k : Fin 128) : (V m c main_v4 : Vec Ideal S128x128 .f32) (ix2 j k) = (m ((c : Thread nD τ).loc main_arg2) : Vec Ideal S128x128 .f32) (ix2 k j) := by
  simp only [V, hostOps0, hostOps0_1, hostOps0_2, List.flatten_cons, List.flatten_nil, List.append_nil, List.cons_append, List.nil_append]
  entry_read
  pointwise []

theorem b1 (j : Fin 128) : (V m c main_v5 : Vec Ideal S128x1 .f32) (ix2 j 0) = (m ((c : Thread nD τ).loc main_arg3) : Vec Ideal S128 .f32) (ix1 j) := by
  simp only [V, hostOps0, hostOps0_1, hostOps0_2, List.flatten_cons, List.flatten_nil, List.append_nil, List.cons_append, List.nil_append]
  entry_read
  pointwise []

theorem w2 (j : Fin 64) (k : Fin 128) : (V m c main_v6 : Vec Ideal S64x128 .f32) (ix2 j k) = (m ((c : Thread nD τ).loc main_arg4) : Vec Ideal S128x64 .f32) (ix2 k j) := by
  simp only [V, hostOps0, hostOps0_1, hostOps0_2, List.flatten_cons, List.flatten_nil, List.append_nil, List.cons_append, List.nil_append]
  entry_read
  pointwise []

theorem b2 (j : Fin 64) : (V m c main_v7 : Vec Ideal S64x1 .f32) (ix2 j 0) = (m ((c : Thread nD τ).loc main_arg5) : Vec Ideal S64 .f32) (ix1 j) := by
  simp only [V, hostOps0, hostOps0_1, hostOps0_2, List.flatten_cons, List.flatten_nil, List.append_nil, List.cons_append, List.nil_append]
  entry_read
  pointwise []

theorem w3 (j : Fin 128) (k : Fin 64) : (V m c main_v8 : Vec Ideal S128x64 .f32) (ix2 j k) = (m ((c : Thread nD τ).loc main_arg6) : Vec Ideal S64x128 .f32) (ix2 k j) := by
  simp only [V, hostOps0, hostOps0_1, hostOps0_2, List.flatten_cons, List.flatten_nil, List.append_nil, List.cons_append, List.nil_append]
  entry_read
  pointwise []

theorem b3 (j : Fin 128) : (V m c main_v9 : Vec Ideal S128x1 .f32) (ix2 j 0) = (m ((c : Thread nD τ).loc main_arg7) : Vec Ideal S128 .f32) (ix1 j) := by
  simp only [V, hostOps0, hostOps0_1, hostOps0_2, List.flatten_cons, List.flatten_nil, List.append_nil, List.cons_append, List.nil_append]
  entry_read
  pointwise []

theorem wa (j : Fin 512) (k : Fin 128) : (V m c main_v10 : Vec Ideal S512x128 .f32) (ix2 j k) = (m ((c : Thread nD τ).loc main_arg8) : Vec Ideal S128x512 .f32) (ix2 k j) := by
  simp only [V, hostOps0, hostOps0_1, hostOps0_2, List.flatten_cons, List.flatten_nil, List.append_nil, List.cons_append, List.nil_append]
  entry_read
  pointwise []

theorem ba (j : Fin 512) : (V m c main_v11 : Vec Ideal S512x1 .f32) (ix2 j 0) = (m ((c : Thread nD τ).loc main_arg9) : Vec Ideal S512 .f32) (ix1 j) := by
  simp only [V, hostOps0, hostOps0_1, hostOps0_2, List.flatten_cons, List.flatten_nil, List.append_nil, List.cons_append, List.nil_append]
  entry_read
  pointwise []

theorem wc (k : Fin 128) : (V m c main_v12 : Vec Ideal S1x128 .f32) (ix2 0 k) = (m ((c : Thread nD τ).loc main_arg10) : Vec Ideal S128x1 .f32) (ix2 k 0) := by
  simp only [V, hostOps0, hostOps0_1, hostOps0_2, List.flatten_cons, List.flatten_nil, List.append_nil, List.cons_append, List.nil_append]
  entry_read
  pointwise []

theorem bc : (V m c main_v13 : Vec Ideal S1x1 .f32) (ix2 0 0) = (m ((c : Thread nD τ).loc main_arg11) : Vec Ideal S1 .f32) (ix1 0) := by
  simp only [V, hostOps0, hostOps0_1, hostOps0_2, List.flatten_cons, List.flatten_nil, List.append_nil, List.cons_append, List.nil_append]
  entry_read
  pointwise []

/-- The noise's block of point `t` holds, at row `q` of it, row `4096 t + q` of the noise. -/
theorem noise (t : Fin 13) (j : Fin 512) (q : Fin 4096) (r : Fin 50000) (hr : r.val = t.val * 4096 + q.val) :
    (V m c main_v3 : Vec Ideal S13x512x4096 .f32) (ix3 t j q) = (m ((c : Thread nD τ).loc main_arg12) : Vec Ideal S50000x512 .f32) (ix2 r j) := by
  simp only [V, hostOps0, hostOps0_1, hostOps0_2, List.flatten_cons, List.flatten_nil, List.append_nil, List.cons_append, List.nil_append]
  entry_read
  simp only [StableHlo.TRef.toBuf, StableHlo.TRef.ofBuf, cast_cast, cast_eq]
  pointwise []
  rw [dif_pos (show (t : Nat) * 4096 + (q : Nat) < 50000 from hr ▸ r.isLt)]
  exact congrArg (fun z => (m ((c : Thread nD τ).loc main_arg12) : Vec Ideal S50000x512 .f32) (ix2 z j)) (Fin.ext hr.symm)

end Cert.KernelIdeal.Entry

end
-- ==== Proof.Arrays.lean ====
/- What the kernel's four result arrays hold after the run: at each row of `x`, the row's results. -/
module

public import proofs.«01_k».proof.Proof.DatsKernelIdeal
public import proofs.«01_k».proof.Proof.Entry

@[expose] public section

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe

variable (m : (ℓ : Loc nD τ sig) → Buf (Elt Ideal) ℓ) (c : Dev nD)

/-- Row `r`'s features, by the arguments. -/
def frow (r : Fin 50000) : Fin 128 → EReal :=
  Row.feat (fun j k => (m ((c : Thread nD τ).loc main_arg2) : Vec Ideal S128x128 .f32) (ix2 k j)) (fun j => (m ((c : Thread nD τ).loc main_arg3) : Vec Ideal S128 .f32) (ix1 j))
    (fun j k => (m ((c : Thread nD τ).loc main_arg4) : Vec Ideal S128x64 .f32) (ix2 k j)) (fun j => (m ((c : Thread nD τ).loc main_arg5) : Vec Ideal S64 .f32) (ix1 j))
    (fun j k => (m ((c : Thread nD τ).loc main_arg6) : Vec Ideal S64x128 .f32) (ix2 k j)) (fun j => (m ((c : Thread nD τ).loc main_arg7) : Vec Ideal S128 .f32) (ix1 j))
    (fun k => (m ((c : Thread nD τ).loc main_arg0) : Vec Ideal S50000x128 .f32) (ix2 r k))

/-- Row `r`'s logits. -/
def lrow (r : Fin 50000) : Fin 512 → EReal :=
  Row.lay (fun j k => (m ((c : Thread nD τ).loc main_arg8) : Vec Ideal S128x512 .f32) (ix2 k j))
    (fun j => (m ((c : Thread nD τ).loc main_arg9) : Vec Ideal S512 .f32) (ix1 j)) (frow m c r)

/-- Row `r`'s noise. -/
def grow (r : Fin 50000) : Fin 512 → EReal := fun j => (m ((c : Thread nD τ).loc main_arg12) : Vec Ideal S50000x512 .f32) (ix2 r j)

/-- Row `r`'s value. -/
def vrow (r : Fin 50000) : EReal :=
  Row.lay (fun j k => (m ((c : Thread nD τ).loc main_arg10) : Vec Ideal S128x1 .f32) (ix2 k j))
    (fun j => (m ((c : Thread nD τ).loc main_arg11) : Vec Ideal S1 .f32) (ix1 j)) (frow m c r) (0 : Fin 1)

theorem idx : ∀ t : Fin cfg0.N, win0_0.index t = ![t.val, 0] ∧ win0_1.index t = ![t.val, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val] ∧ win0_13.index t = ![t.val]
    ∧ win0_14.index t = ![t.val] ∧ win0_15.index t = ![t.val] :=
  (by decide +kernel : ∀ t : Fin grid0.N, _)

/-- A weight's block is the weight. -/
theorem blk_w1 (t : Fin cfg0.N) (j k : Fin 128) : (iblk m c 2 t : Vec Ideal S128x128 .f32) (ix2 j k) = (m ((c : Thread nD τ).loc main_arg2) : Vec Ideal S128x128 .f32) (ix2 k j) := by
  refine Eq.trans ?_ (Entry.w1 m c j k)
  blk_ext [iblk, idx t]

theorem blk_b1 (t : Fin cfg0.N) (j : Fin 128) : (iblk m c 3 t : Vec Ideal S128x1 .f32) (ix2 j 0) = (m ((c : Thread nD τ).loc main_arg3) : Vec Ideal S128 .f32) (ix1 j) := by
  refine Eq.trans ?_ (Entry.b1 m c j)
  blk_ext [iblk, idx t]

theorem blk_w2 (t : Fin cfg0.N) (j : Fin 64) (k : Fin 128) : (iblk m c 4 t : Vec Ideal S64x128 .f32) (ix2 j k) = (m ((c : Thread nD τ).loc main_arg4) : Vec Ideal S128x64 .f32) (ix2 k j) := by
  refine Eq.trans ?_ (Entry.w2 m c j k)
  blk_ext [iblk, idx t]

theorem blk_b2 (t : Fin cfg0.N) (j : Fin 64) : (iblk m c 5 t : Vec Ideal S64x1 .f32) (ix2 j 0) = (m ((c : Thread nD τ).loc main_arg5) : Vec Ideal S64 .f32) (ix1 j) := by
  refine Eq.trans ?_ (Entry.b2 m c j)
  blk_ext [iblk, idx t]

theorem blk_w3 (t : Fin cfg0.N) (j : Fin 128) (k : Fin 64) : (iblk m c 6 t : Vec Ideal S128x64 .f32) (ix2 j k) = (m ((c : Thread nD τ).loc main_arg6) : Vec Ideal S64x128 .f32) (ix2 k j) := by
  refine Eq.trans ?_ (Entry.w3 m c j k)
  blk_ext [iblk, idx t]

theorem blk_b3 (t : Fin cfg0.N) (j : Fin 128) : (iblk m c 7 t : Vec Ideal S128x1 .f32) (ix2 j 0) = (m ((c : Thread nD τ).loc main_arg7) : Vec Ideal S128 .f32) (ix1 j) := by
  refine Eq.trans ?_ (Entry.b3 m c j)
  blk_ext [iblk, idx t]

theorem blk_wa (t : Fin cfg0.N) (j : Fin 512) (k : Fin 128) : (iblk m c 8 t : Vec Ideal S512x128 .f32) (ix2 j k) = (m ((c : Thread nD τ).loc main_arg8) : Vec Ideal S128x512 .f32) (ix2 k j) := by
  refine Eq.trans ?_ (Entry.wa m c j k)
  blk_ext [iblk, idx t]

theorem blk_ba (t : Fin cfg0.N) (j : Fin 512) : (iblk m c 9 t : Vec Ideal S512x1 .f32) (ix2 j 0) = (m ((c : Thread nD τ).loc main_arg9) : Vec Ideal S512 .f32) (ix1 j) := by
  refine Eq.trans ?_ (Entry.ba m c j)
  blk_ext [iblk, idx t]

theorem blk_wc (t : Fin cfg0.N) (k : Fin 128) : (iblk m c 10 t : Vec Ideal S1x128 .f32) (ix2 0 k) = (m ((c : Thread nD τ).loc main_arg10) : Vec Ideal S128x1 .f32) (ix2 k 0) := by
  refine Eq.trans ?_ (Entry.wc m c k)
  blk_ext [iblk, idx t]

theorem blk_bc (t : Fin cfg0.N) : (iblk m c 11 t : Vec Ideal S1x1 .f32) (ix2 0 0) = (m ((c : Thread nD τ).loc main_arg11) : Vec Ideal S1 .f32) (ix1 0) := by
  refine Eq.trans ?_ (Entry.bc m c)
  blk_ext [iblk, idx t]

theorem growb_eq (t : Fin cfg0.N) (q : Fin 4096) (r : Fin 50000) (hr : r.val = t.val * 4096 + q.val) : growb m c t q = grow m c r := by
  funext j
  refine Eq.trans ?_ (Entry.noise m c ⟨t.val, t.isLt⟩ j q r hr)
  unfold growb
  blk_ext [iblk, idx t]

/-- The filled-out block of `x` holds, at row `q` inside the array, row `4096 t + q` of `x`. -/
theorem xfill_eq (t : Fin cfg0.N) (q : Fin 4096) (r : Fin 50000) (hq : q.val < win0_0.xsize (grid0.coords t) 0) (hr : r.val = t.val * 4096 + q.val) (k : Fin 128) :
    xfill m c t (ix2 q k) = (m ((c : Thread nD τ).loc main_arg0) : Vec Ideal S50000x128 .f32) (ix2 r k) := by
  have hk : k.val < win0_0.xsize (grid0.coords t) 1 := by
    rw [(by decide +kernel : ∀ t : Fin grid0.N, win0_0.xsize (grid0.coords t) 1 = 128) t]; exact k.isLt
  let z : (win0_0.xblock (grid0.coords t)).Idx := fun a => match a with
    | ⟨0, _⟩ => ⟨q.val, hq⟩
    | ⟨1, _⟩ => ⟨k.val, hk⟩
  have hz : win0_0.xinj (grid0.coords t) z = (ix2 q k : S4096x128.Idx) := by
    funext a
    match a with
    | ⟨0, _⟩ => rfl
    | ⟨1, _⟩ => rfl
  have h2 := win0_0.fill_xinj (grid0.coords t) (fun _ => (0 : EReal)) (iblk m c 0 t) z
  rw [hz] at h2
  refine h2.trans ?_
  rw [← V_main_arg0 m c]
  have h0 : (z 0).val = q.val := rfl
  have h1 : (z 1).val = k.val := rfl
  blk_ext [iblk, idx t, h0, h1, hr]

theorem frowb_eq (t : Fin cfg0.N) (q : Fin 4096) (r : Fin 50000) (hq : q.val < win0_0.xsize (grid0.coords t) 0) (hr : r.val = t.val * 4096 + q.val) :
    frowb m c t (fun k => xfill m c t (ix2 q k)) = frow m c r := by
  unfold frowb frow
  rw [show mat (n := 128) (m := 128) (iblk m c 2 t) = _ from funext fun j => funext fun k => blk_w1 m c t j k,
    show col (n := 128) (m := 1) (iblk m c 3 t) 0 = _ from funext fun j => blk_b1 m c t j,
    show mat (n := 64) (m := 128) (iblk m c 4 t) = _ from funext fun j => funext fun k => blk_w2 m c t j k,
    show col (n := 64) (m := 1) (iblk m c 5 t) 0 = _ from funext fun j => blk_b2 m c t j,
    show mat (n := 128) (m := 64) (iblk m c 6 t) = _ from funext fun j => funext fun k => blk_w3 m c t j k,
    show col (n := 128) (m := 1) (iblk m c 7 t) 0 = _ from funext fun j => blk_b3 m c t j,
    show (fun k => xfill m c t (ix2 q k)) = _ from funext fun k => xfill_eq m c t q r hq hr k]

theorem lrowb_eq (t : Fin cfg0.N) (q : Fin 4096) (r : Fin 50000) (hq : q.val < win0_0.xsize (grid0.coords t) 0) (hr : r.val = t.val * 4096 + q.val) :
    lrowb m c t (fun k => xfill m c t (ix2 q k)) = lrow m c r := by
  unfold lrowb lrow
  rw [frowb_eq m c t q r hq hr]
  rw [show mat (n := 512) (m := 128) (iblk m c 8 t) = _ from funext fun j => funext fun k => blk_wa m c t j k,
    show col (n := 512) (m := 1) (iblk m c 9 t) 0 = _ from funext fun j => blk_ba m c t j]

/-- The value of a column of the block is its row's. -/
theorem vrowb_eq (t : Fin cfg0.N) (q : Fin 4096) (r : Fin 50000) (hq : q.val < win0_0.xsize (grid0.coords t) 0) (hr : r.val = t.val * 4096 + q.val) :
    Row.lay (mat (n := 1) (m := 128) (iblk m c 10 t)) (col (n := 1) (m := 1) (iblk m c 11 t) 0) (frowb m c t fun k => xfill m c t (ix2 q k)) 0 = vrow m c r := by
  unfold vrow Row.lay
  rw [frowb_eq m c t q r hq hr]
  refine congrArg₂ (· + ·) (Finset.sum_congr rfl fun k _ => ?_) (blk_bc m c t)
  rw [show mat (n := 1) (m := 128) (iblk m c 10 t) 0 k = _ from blk_wc m c t k]

end Cert.KernelIdeal.Run

end
-- ==== Proof.Final.lean ====
/- The four result arrays of the kernel after the run, each by the rows of `x`. -/
module

public import proofs.«01_k».proof.Proof.Arrays

@[expose] public section

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe

variable (m : (ℓ : Loc nD τ sig) → Buf (Elt Ideal) ℓ) (c : Dev nD)

attribute [local irreducible] pickb logpb entb valb

theorem pick_final : (dats m 0 c).arrAt 12 cfg0.N = fun y : S50000.Idx => Row.kpick (lrow m c (y 0)) (grow m c (y 0)) := by
  refine (dats m 0 c).arrAt_eq_of_covers 12 _ (by decide +kernel) fun t hf y => ?_
  refine Eq.trans (eq_of_heq (cast_heq _ _)) ?_
  obtain ⟨q, hy, hv⟩ : ∃ q : Fin 4096, win0_12.xinj (grid0.coords t) y = (ix1 q : S4096.Idx) ∧ q.val = (y 0).val :=
    ⟨win0_12.xinj (grid0.coords t) y 0, eq_ix1 (n0 := 4096) _, rfl⟩
  have hq : q.val < win0_0.xsize (grid0.coords t) 0 := by rw [hv, ← xsize_12 t]; exact (y 0).isLt
  have hr : ((((win0_12.blk t).view.emb y) 0 : Fin 50000) : Nat) = t.val * 4096 + q.val := by
    blk_simp [idx t, hv]
  refine Eq.trans (congrArg (pickb m c t (xfill m c t)) hy) (Eq.trans (pickb_at m c t _ q) ?_)
  beta_reduce
  rw [lrowb_eq m c t q _ hq hr, growb_eq m c t q _ hr]

theorem logp_final : (dats m 0 c).arrAt 13 cfg0.N = fun y : S50000.Idx => Row.klp (lrow m c (y 0)) (grow m c (y 0)) := by
  refine (dats m 0 c).arrAt_eq_of_covers 13 _ (by decide +kernel) fun t hf y => ?_
  refine Eq.trans (eq_of_heq (cast_heq _ _)) ?_
  obtain ⟨q, hy, hv⟩ : ∃ q : Fin 4096, win0_13.xinj (grid0.coords t) y = (ix1 q : S4096.Idx) ∧ q.val = (y 0).val :=
    ⟨win0_13.xinj (grid0.coords t) y 0, eq_ix1 (n0 := 4096) _, rfl⟩
  have hq : q.val < win0_0.xsize (grid0.coords t) 0 := by rw [hv, ← xsize_13 t]; exact (y 0).isLt
  have hr : ((((win0_13.blk t).view.emb y) 0 : Fin 50000) : Nat) = t.val * 4096 + q.val := by
    blk_simp [idx t, hv]
  refine Eq.trans (congrArg (logpb m c t (xfill m c t)) hy) (Eq.trans (logpb_at m c t _ q) ?_)
  beta_reduce
  rw [lrowb_eq m c t q _ hq hr, growb_eq m c t q _ hr]

theorem ent_final : (dats m 0 c).arrAt 14 cfg0.N = fun y : S50000.Idx => Row.kent (lrow m c (y 0)) (grow m c (y 0)) := by
  refine (dats m 0 c).arrAt_eq_of_covers 14 _ (by decide +kernel) fun t hf y => ?_
  refine Eq.trans (eq_of_heq (cast_heq _ _)) ?_
  obtain ⟨q, hy, hv⟩ : ∃ q : Fin 4096, win0_14.xinj (grid0.coords t) y = (ix1 q : S4096.Idx) ∧ q.val = (y 0).val :=
    ⟨win0_14.xinj (grid0.coords t) y 0, eq_ix1 (n0 := 4096) _, rfl⟩
  have hq : q.val < win0_0.xsize (grid0.coords t) 0 := by rw [hv, ← xsize_14 t]; exact (y 0).isLt
  have hr : ((((win0_14.blk t).view.emb y) 0 : Fin 50000) : Nat) = t.val * 4096 + q.val := by
    blk_simp [idx t, hv]
  refine Eq.trans (congrArg (entb m c t (xfill m c t)) hy) (Eq.trans (entb_at m c t _ q) ?_)
  beta_reduce
  rw [lrowb_eq m c t q _ hq hr, growb_eq m c t q _ hr]

theorem val_final : (dats m 0 c).arrAt 15 cfg0.N = fun y : S50000.Idx => vrow m c (y 0) := by
  refine (dats m 0 c).arrAt_eq_of_covers 15 _ (by decide +kernel) fun t hf y => ?_
  refine Eq.trans (eq_of_heq (cast_heq _ _)) ?_
  obtain ⟨q, hy, hv⟩ : ∃ q : Fin 4096, win0_15.xinj (grid0.coords t) y = (ix1 q : S4096.Idx) ∧ q.val = (y 0).val :=
    ⟨win0_15.xinj (grid0.coords t) y 0, eq_ix1 (n0 := 4096) _, rfl⟩
  have hq : q.val < win0_0.xsize (grid0.coords t) 0 := by rw [hv, ← xsize_15 t]; exact (y 0).isLt
  have hr : ((((win0_15.blk t).view.emb y) 0 : Fin 50000) : Nat) = t.val * 4096 + q.val := by
    blk_simp [idx t, hv]
  refine Eq.trans (congrArg (valb m c t (xfill m c t)) hy) (Eq.trans (valb_at m c t _ q) ?_)
  exact vrowb_eq m c t q _ hq hr

end Cert.KernelIdeal.Run

end
-- ==== Proof.RefRow.lean ====
/- The reference's arrays row by row. -/
module

public import proofs.«01_k».proof.Proof.RefRun
public import proofs.«01_k».proof.Proof.Row
public import Idealize.ShloMosaic.Lib.Pointwise

@[expose] public section

set_option maxRecDepth 16384

noncomputable section

namespace Cert.ReferenceIdeal.Run

open Cert.ReferenceIdeal
open Idealize.ShloMosaic

/-- The word of one is one. -/
theorem ofBits_one : Ideal.ofBits .f32 0x3F800000#32 = 1 := by
  simp [Ideal.ofBits, Ideal.ieee]
  rw [← EReal.coe_mul, ← EReal.coe_one]
  norm_num

theorem act1_row (x : FVec Ideal S50000x128 .f32) (W1 : FVec Ideal S128x128 .f32) (b1 : FVec Ideal S128 .f32) (r : Fin 50000) (j : Fin 128) :
    act1 x W1 b1 (ix2 r j) = Row.silu (Row.lay (fun j k => W1 (ix2 k j)) (fun j => b1 (ix1 j)) (fun k => x (ix2 r k))) j := by
  pointwise [act1]
  unfold Row.silu Row.lay
  simp only [mul_comm (W1 _)]
  rfl

theorem act2_row (x : FVec Ideal S50000x128 .f32) (W2 : FVec Ideal S128x64 .f32) (b2 : FVec Ideal S64 .f32) (r : Fin 50000) (j : Fin 64) :
    act2 x W2 b2 (ix2 r j) = Row.silu (Row.lay (fun j k => W2 (ix2 k j)) (fun j => b2 (ix1 j)) (fun k => x (ix2 r k))) j := by
  pointwise [act2]
  unfold Row.silu Row.lay
  simp only [mul_comm (W2 _)]
  rfl

theorem feat_row (x : FVec Ideal S50000x64 .f32) (W3 : FVec Ideal S64x128 .f32) (b3 : FVec Ideal S128 .f32) (r : Fin 50000) (j : Fin 128) :
    feat x W3 b3 (ix2 r j) = Row.lay (fun j k => W3 (ix2 k j)) (fun j => b3 (ix1 j)) (fun k => x (ix2 r k)) j := by
  pointwise [feat]
  unfold Row.lay
  simp only [mul_comm (W3 _)]

theorem logits_row (mask : IVec S50000x512 1) (f : FVec Ideal S50000x128 .f32) (Wa : FVec Ideal S128x512 .f32) (ba : FVec Ideal S512 .f32)
    (r : Fin 50000) (j : Fin 512) (hm : mask (ix2 r j) = 1#1) :
    logits mask f Wa ba (ix2 r j) = Row.lay (fun j k => Wa (ix2 k j)) (fun j => ba (ix1 j)) (fun k => f (ix2 r k)) j := by
  pointwise [logits]
  rw [hm]
  unfold Row.lay
  simp only [mul_comm (Wa _)]
  rfl

theorem value_row (f : FVec Ideal S50000x128 .f32) (Wc : FVec Ideal S128x1 .f32) (bc : FVec Ideal S1 .f32) (r : Fin 50000) :
    value f Wc bc (ix1 r) = Row.lay (fun j k => Wc (ix2 k j)) (fun j => bc (ix1 j)) (fun k => f (ix2 r k)) 0 := by
  pointwise [value]
  unfold Row.lay
  simp only [mul_comm (Wc _)]

theorem rowmax_row (l : FVec Ideal S50000x512 .f32) (r : Fin 50000) :
    Host.reduce (FloatOps.maximumf (F := Ideal) (φ := .f32)) l (constant S_ .f32 0xFF800000#32) Gen.reducesTo_S50000x512_S50000_d1 Gen.h_S_ (ix1 r) = Row.top (fun x => l (ix2 r x)) := by
  pointwise []
  rfl

theorem shift_at (l : FVec Ideal S50000x512 .f32) (M : FVec Ideal S50000 .f32) (r : Fin 50000) (j : Fin 512) :
    subf l (broadcastInDim S50000x512 ![0, 1] Gen.bcast_S50000x1_S50000x512_0_1 (broadcastInDim S50000x1 ![0] Gen.bcast_S50000_S50000x1_0
      (maximumf (broadcastInDim S50000 ![] Gen.bcast_S_S50000 (constant S_ .f32 0xFF800000#32)) M))) (ix2 r j)
      = l (ix2 r j) - max (Ideal.ofBits .f32 0xFF800000#32) (M (ix1 r)) := by
  pointwise []

theorem shifted_row (l : FVec Ideal S50000x512 .f32) (r : Fin 50000) (j : Fin 512) :
    shifted l (ix2 r j) = l (ix2 r j) - max (Ideal.ofBits .f32 0xFF800000#32) (Row.top (fun x => l (ix2 r x))) :=
  (shift_at l _ r j).trans (congrArg (fun M => l (ix2 r j) - max (Ideal.ofBits .f32 0xFF800000#32) M) (rowmax_row l r))

theorem logp_row (l : FVec Ideal S50000x512 .f32) (r : Fin 50000) (j : Fin 512) :
    logp l (ix2 r j) = Row.rlogp (fun x => l (ix2 r x)) j := by
  have e : logp l (ix2 r j) = shifted l (ix2 r j) - Ideal.log (∑ x, Ideal.exp (shifted l (ix2 r x))) := by
    pointwise [logp]
  rw [e]
  simp only [shifted_row]
  unfold Row.rlogp
  rfl

theorem entropy_row (mask : IVec S50000x512 1) (p : FVec Ideal S50000x512 .f32) (r : Fin 50000) (hm : ∀ j, mask (ix2 r j) = 1#1) :
    entropy mask p (ix1 r) = -∑ j, Ideal.exp (p (ix2 r j)) * p (ix2 r j) := by
  pointwise [entropy]
  simp only [hm]
  rfl

theorem start_row (i : IVec S50000 32) (r : Fin 50000) :
    start i (ix3 r 0 0) = Scalar.select (IntOp.cmpi .slt (i (ix1 r)) 0#32) (IntOp.addi (i (ix1 r)) 512#32) (i (ix1 r)) := by
  pointwise [start]

theorem taken_row (p : FVec Ideal S50000x512 .f32) (s : IVec S50000x1x1 32) (r : Fin 50000) (k : Fin 512) (hk : s (ix3 r 0 0) = BitVec.ofNat 32 k.val) :
    taken p s (ix1 r) = Host.gather gather_S50000x512_S50000x1x1_S50000x1_n_1_0_0_1_2_11 p s (ix2 r 0) := by
  pointwise [taken]
  have h : ∀ k : Fin 512, IntOp.andi (IntOp.andi (IntOp.cmpi .sge (BitVec.ofNat 32 k.val) 0#32) (IntOp.cmpi .sle (BitVec.ofNat 32 k.val) 511#32)) 1#1 = 1#1 := by
    decide +kernel
  rw [Finset.univ_unique, Finset.fold_singleton]
  have e : s (ix3 r 0 default) = BitVec.ofNat 32 k.val := hk
  rw [e, h k]
  rfl

theorem start_pick (i : IVec S50000 32) (r : Fin 50000) (k : Fin 512) (hk : i (ix1 r) = BitVec.ofNat 32 k.val) :
    start i (ix3 r 0 0) = BitVec.ofNat 32 k.val := by
  have h : ∀ k : Fin 512, Scalar.select (IntOp.cmpi .slt (BitVec.ofNat 32 k.val) 0#32) (IntOp.addi (BitVec.ofNat 32 k.val) 512#32) (BitVec.ofNat 32 k.val)
      = BitVec.ofNat 32 k.val := by
    decide +kernel
  rw [start_row, hk, h k]

/-- The gather at a row: the row at its start index. -/
theorem gather_row (p : FVec Ideal S50000x512 .f32) (s : IVec S50000x1x1 32) (r : Fin 50000) (k : Fin 512) (hk : s (ix3 r 0 0) = BitVec.ofNat 32 k.val) :
    Host.gather gather_S50000x512_S50000x1x1_S50000x1_n_1_0_0_1_2_11 p s (ix2 r 0) = p (ix2 r k) := by
  unfold Host.gather
  congr 1
  funext a
  refine Fin.ext ?_
  show gather_S50000x512_S50000x1x1_S50000x1_n_1_0_0_1_2_11.start (ix2 r 0) s a
      + gather_S50000x512_S50000x1x1_S50000x1_n_1_0_0_1_2_11.batchCoord (ix2 r 0) a
      + gather_S50000x512_S50000x1x1_S50000x1_n_1_0_0_1_2_11.offCoord (ix2 r 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S50000x512_S50000x1x1_S50000x1_n_1_0_0_1_2_11.operandBatchingDims from List.mem_singleton.mpr rfl)]
    rfl
  · rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S50000x512_S50000x1x1_S50000x1_n_1_0_0_1_2_11.startIndexMap from List.mem_singleton.mpr rfl)]
    have hsi : gather_S50000x512_S50000x1x1_S50000x1_n_1_0_0_1_2_11.siIdx (ix2 r 0)
        ⟨List.idxOf (1 : Fin 2) gather_S50000x512_S50000x1x1_S50000x1_n_1_0_0_1_2_11.startIndexMap,
          List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    have e : (s (ix3 r 0 0)).toInt.toNat = k.val := by rw [hk, Row.toInt_ofNat k.val (by omega)]; exact Int.toNat_natCast _
    show min (s (gather_S50000x512_S50000x1x1_S50000x1_n_1_0_0_1_2_11.siIdx (ix2 r 0) _)).toInt.toNat 511 = k.val
    rw [hsi, e]
    omega

/-- A left fold by a step that keeps one of its two arguments, and one above both, ends at a member above all. -/
theorem foldl_above {α : Type} (f : α → α → α) (D : α → α → Prop) (hr : ∀ a, D a a) (ht : ∀ a b c, D a b → D b c → D a c)
    (hf : ∀ a b, (f a b = a ∨ f a b = b) ∧ D (f a b) a ∧ D (f a b) b) (l : List α) :
    ∀ a, (l.foldl f a = a ∨ l.foldl f a ∈ l) ∧ D (l.foldl f a) a ∧ ∀ p ∈ l, D (l.foldl f a) p := by
  induction l with
  | nil => exact fun a => ⟨.inl rfl, hr a, fun p hp => absurd hp List.not_mem_nil⟩
  | cons b l ih =>
    intro a
    obtain ⟨h1, h2, h3⟩ := ih (f a b)
    obtain ⟨e, da, db⟩ := hf a b
    rw [List.foldl_cons]
    refine ⟨?_, ht _ _ _ h2 da, fun p hp => ?_⟩
    · rcases h1 with h1 | h1
      · rw [h1]
        rcases e with e | e
        · exact .inl e
        · right; rw [e]; exact List.mem_cons_self
      · exact .inr (List.mem_cons_of_mem _ h1)
    · rcases List.mem_cons.1 hp with rfl | hp
      · exact ht _ _ _ h2 db
      · exact h3 p hp

/-- The first pair is above the second: a greater value, or the same at no greater an index. -/
def Above (p q : Ideal .f32 × BitVec 32) : Prop := (q.1 : EReal) < p.1 ∨ (q.1 : EReal) = p.1 ∧ p.2.toInt ≤ q.2.toInt

theorem Above.refl (p : Ideal .f32 × BitVec 32) : Above p p := .inr ⟨rfl, le_rfl⟩

theorem Above.trans (a b c : Ideal .f32 × BitVec 32) (h : Above a b) (h' : Above b c) : Above a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- One step of the reference's search. -/
theorem reducer_spec (a b : Ideal .f32 × BitVec 32) :
    (reducer_argmax_f32_i32 (F := Ideal) a b = a ∨ reducer_argmax_f32_i32 (F := Ideal) a b = b)
      ∧ Above (reducer_argmax_f32_i32 (F := Ideal) a b) a ∧ Above (reducer_argmax_f32_i32 (F := Ideal) a b) b := by
  obtain ⟨a1, a2⟩ := a
  obtain ⟨b1, b2⟩ := b
  have hv : reducer_argmax_f32_i32 (F := Ideal) (a1, a2) (b1, b2)
      = if (b1 : EReal) < a1 ∨ (a1 : EReal) = b1 ∧ a2.toInt < b2.toInt then (a1, a2) else (b1, b2) := by
    unfold reducer_argmax_f32_i32
    by_cases h1 : (b1 : EReal) < a1
    · have h0 : ¬ (a1 : EReal) = b1 := fun e => absurd h1 (by rw [e]; exact lt_irrefl _)
      simp [Ideal.cmpf_def, Ideal.cmp, IntOp.cmpi, IntOp.ori, IntOp.andi, Scalar.select, h1, h0]
    · by_cases h2 : (a1 : EReal) = b1
      · subst h2
        by_cases h3 : a2.toInt < b2.toInt
        · simp [Ideal.cmpf_def, Ideal.cmp, IntOp.cmpi, IntOp.ori, IntOp.andi, Scalar.select, h3, BitVec.slt]
        · simp [Ideal.cmpf_def, Ideal.cmp, IntOp.cmpi, IntOp.ori, IntOp.andi, Scalar.select, h3, BitVec.slt]
      · simp [Ideal.cmpf_def, Ideal.cmp, IntOp.cmpi, IntOp.ori, IntOp.andi, Scalar.select, h1, h2]
  rw [hv]
  by_cases h : (b1 : EReal) < a1 ∨ (a1 : EReal) = b1 ∧ a2.toInt < b2.toInt
  · rw [if_pos h]
    refine ⟨.inl rfl, Above.refl _, ?_⟩
    rcases h with h | ⟨h, k⟩
    · exact .inl h
    · exact .inr ⟨h.symm, k.le⟩
  · rw [if_neg h]
    refine ⟨.inr rfl, ?_, Above.refl _⟩
    rw [not_or, not_and, not_lt, not_lt] at h
    rcases lt_or_eq_of_le h.1 with k | k
    · exact .inl k
    · exact .inr ⟨k, h.2 k⟩

/-- The search over a row: a greatest entry at its least index, no entry being minus infinity. -/
theorem search_spec {N : ℕ} (x : FVec Ideal ⟨2, ![N, 512]⟩ .f32) (y : IVec ⟨2, ![N, 512]⟩ 32) (i0 : FVec Ideal S_ .f32) (j0 : IVec S_ 32)
    (h : Shape.ReducesTo ⟨2, ![N, 512]⟩ [1] ⟨1, ![N]⟩) (hu : 0 < S_.numel) (hi : ∀ i, i0 i = (⊥ : EReal))
    (hy : ∀ (r : Fin N) (j : Fin 512), y (ix2 r j) = BitVec.ofNat 32 j.val) (r : Fin N) (hx : ∀ j : Fin 512, x (ix2 r j) ≠ (⊥ : EReal)) :
    ∃ k : Fin 512, search x y i0 j0 h hu (ix1 r) = BitVec.ofNat 32 k.val
      ∧ ∀ j : Fin 512, (x (ix2 r j) : EReal) < x (ix2 r k) ∨ (x (ix2 r j) : EReal) = x (ix2 r k) ∧ k ≤ j := by
  unfold search
  have hk : ∀ i : (⟨2, ![N, 512]⟩ : Shape).Idx, (h.drop i (0 : Fin 1) : ℕ) = (i (0 : Fin 2)).val := fun _ => rfl
  have e : Host.argReduce (reducer_argmax_f32_i32 (F := Ideal)) x y i0 j0 h hu (ix1 r)
      = (Host.argReduceFiber x y h (ix1 r)).foldl (reducer_argmax_f32_i32 (F := Ideal)) (i0 (Shape.Idx.first hu), j0 (Shape.Idx.first hu)) := by
    rw [Ideal.argReduce_eq_reduce2]; exact Host.reduce2_eq_foldl_fiber _ _ _ _ _ _ _ _
  have hmem : ∀ p, p ∈ Host.argReduceFiber x y h (ix1 r) ↔ ∃ j : Fin 512, p = (x (ix2 r j), BitVec.ofNat 32 j.val) := by
    intro p
    unfold Host.argReduceFiber
    rw [List.mem_map]
    constructor
    · rintro ⟨n, hn, rfl⟩
      have hd := of_decide_eq_true (List.mem_filter.1 hn).2
      generalize (Shape.rowMajor ⟨2, ![N, 512]⟩).symm n = i at hd
      have hi0 : (i (0 : Fin 2)).val = r.val := by rw [← hk i, hd]; rfl
      obtain ⟨j, hj⟩ : ∃ j : Fin 512, i = ix2 r j := ⟨i (1 : Fin 2), by
        funext a
        match a with
        | ⟨0, _⟩ => exact Fin.ext hi0
        | ⟨1, _⟩ => rfl⟩
      exact ⟨j, by rw [← hy r j, hj]⟩
    · rintro ⟨j, rfl⟩
      refine ⟨Shape.rowMajor ⟨2, ![N, 512]⟩ (ix2 r j), List.mem_filter.2 ⟨List.mem_finRange _, decide_eq_true ?_⟩, ?_⟩
      · rw [Equiv.symm_apply_apply]
        funext a
        match a with
        | ⟨0, _⟩ => exact Fin.ext (hk (ix2 r j))
      · rw [Equiv.symm_apply_apply, hy]
  obtain ⟨h1, h2, h3⟩ := foldl_above (reducer_argmax_f32_i32 (F := Ideal)) Above Above.refl Above.trans reducer_spec
    (Host.argReduceFiber x y h (ix1 r)) (i0 (Shape.Idx.first hu), j0 (Shape.Idx.first hu))
  rw [← e] at h1 h2 h3
  generalize Host.argReduce (reducer_argmax_f32_i32 (F := Ideal)) x y i0 j0 h hu (ix1 r) = w at h1 h2 h3
  rcases h1 with h1 | h1
  · exfalso
    have := h3 _ ((hmem _).2 ⟨0, rfl⟩)
    rw [h1, hi] at this
    rcases this with t | ⟨t, -⟩
    · exact not_lt_bot t
    · exact hx 0 t
  · obtain ⟨k, rfl⟩ := (hmem _).1 h1
    refine ⟨k, rfl, fun j => ?_⟩
    rcases h3 _ ((hmem _).2 ⟨j, rfl⟩) with t | ⟨t, u⟩
    · exact .inl t
    · refine .inr ⟨t, Fin.le_def.2 ?_⟩
      dsimp only at u
      rw [Row.toInt_ofNat k.val (by omega), Row.toInt_ofNat j.val (by omega)] at u
      omega

theorem pick_row (l g : FVec Ideal S50000x512 .f32) (r : Fin 50000) (hl : ∀ j, Row.IsR (l (ix2 r j))) (hg : ∀ j, Row.IsR (g (ix2 r j))) :
    ∃ k : Fin 512, pick l g (ix1 r) = BitVec.ofNat 32 k.val ∧ Row.IsPick (fun x => l (ix2 r x)) (fun x => g (ix2 r x)) k :=
  search_spec (addf l g) (iotaInDim S50000x512 32 1) (constant S_ .f32 0xFF800000#32) (constantI S_ 32 0#32)
    Gen.reducesTo_S50000x512_S50000_d1 Gen.h_S_ (fun _ => Row.ofBits_neg_inf) (fun _ _ => rfl) r fun j => by
      obtain ⟨z, hz⟩ := (hl j).add (hg j)
      show (l (ix2 r j) + g (ix2 r j) : EReal) ≠ ⊥
      rw [hz]; exact EReal.coe_ne_bot z

end Cert.ReferenceIdeal.Run

end
-- ==== Proof.Pair.lean ====
/- The reference's four results, row by row, are the kernel's: the sampled index, its log-probability, the entropy and the
   value of every row, when the row's logits and noise are real numbers. -/
module

public import proofs.«01_k».proof.Proof.RefRow

@[expose] public section

set_option maxRecDepth 16384

noncomputable section

namespace Cert.ReferenceIdeal.Run

open Cert.ReferenceIdeal
open Idealize.ShloMosaic
open Cert.Row (IsR)

/-- The features of the reference at a row are the row's features. -/
theorem features_row (x : FVec Ideal S50000x128 .f32) (W1 : FVec Ideal S128x128 .f32) (b1 : FVec Ideal S128 .f32) (W2 : FVec Ideal S128x64 .f32)
    (b2 : FVec Ideal S64 .f32) (W3 : FVec Ideal S64x128 .f32) (b3 : FVec Ideal S128 .f32) (r : Fin 50000) :
    (fun j => feat (act2 (act1 x W1 b1) W2 b2) W3 b3 (ix2 r j))
      = Row.feat (fun j k => W1 (ix2 k j)) (fun j => b1 (ix1 j)) (fun j k => W2 (ix2 k j)) (fun j => b2 (ix1 j)) (fun j k => W3 (ix2 k j))
          (fun j => b3 (ix1 j)) (fun k => x (ix2 r k)) := by
  funext j
  rw [feat_row, show (fun k => act2 (act1 x W1 b1) W2 b2 (ix2 r k)) = _ from funext fun k => act2_row (act1 x W1 b1) W2 b2 r k,
    show (fun k => act1 x W1 b1 (ix2 r k)) = _ from funext fun k => act1_row x W1 b1 r k]
  rfl

/-- A row of real numbers under real weights has real features. -/
theorem features_isR {W1 : Fin 128 → Fin 128 → EReal} {b1 : Fin 128 → EReal} {W2 : Fin 64 → Fin 128 → EReal} {b2 : Fin 64 → EReal}
    {W3 : Fin 128 → Fin 64 → EReal} {b3 : Fin 128 → EReal} {x : Fin 128 → EReal} (hW1 : ∀ j k, IsR (W1 j k)) (hb1 : ∀ j, IsR (b1 j))
    (hW2 : ∀ j k, IsR (W2 j k)) (hb2 : ∀ j, IsR (b2 j)) (hW3 : ∀ j k, IsR (W3 j k)) (hb3 : ∀ j, IsR (b3 j)) (hx : ∀ k, IsR (x k)) (j : Fin 128) :
    IsR (Row.feat W1 b1 W2 b2 W3 b3 x j) :=
  Row.lay_isR hW3 hb3 (fun k => Row.silu_isR (fun k => Row.lay_isR hW2 hb2 (fun k => Row.silu_isR (fun k => Row.lay_isR hW1 hb1 hx k) k) k) k) j

variable {l g : FVec Ideal S50000x512 .f32} {lr gr : Fin 50000 → Fin 512 → EReal} (hlr : ∀ r, (fun j => l (ix2 r j)) = lr r)
  (hgr : ∀ r, (fun j => g (ix2 r j)) = gr r) (hl : ∀ r j, IsR (lr r j)) (hg : ∀ r j, IsR (gr r j))

include hlr hgr hl hg

/-- The sampled index of a row, and that the kernel's index of the row is the same word. -/
theorem pick_word (r : Fin 50000) : ∃ k : Fin 512, pick l g (ix1 r) = BitVec.ofNat 32 k.val ∧ Row.kpick (lr r) (gr r) = BitVec.ofNat 32 k.val := by
  obtain ⟨k, hk, hp⟩ := pick_row l g r (fun j => by rw [congrFun (hlr r) j]; exact hl r j) (fun j => by rw [congrFun (hgr r) j]; exact hg r j)
  obtain ⟨k', hk', hp'⟩ := Row.kpick_spec (lr r) (gr r)
  rw [hlr r, hgr r] at hp
  rw [hp.unique hp'] at hk
  exact ⟨k', hk, hk'⟩

theorem pick_eq : pick l g = fun y : S50000.Idx => Row.kpick (lr (y 0)) (gr (y 0)) := by
  funext y
  obtain ⟨r, rfl⟩ : ∃ r : Fin 50000, y = (ix1 r : S50000.Idx) := ⟨y 0, eq_ix1 (n0 := 50000) y⟩
  obtain ⟨k, h, h'⟩ := pick_word hlr hgr hl hg r
  exact h.trans h'.symm

theorem taken_eq : taken (logp l) (start (pick l g)) = fun y : S50000.Idx => Row.klp (lr (y 0)) (gr (y 0)) := by
  funext y
  obtain ⟨r, rfl⟩ : ∃ r : Fin 50000, y = (ix1 r : S50000.Idx) := ⟨y 0, eq_ix1 (n0 := 50000) y⟩
  obtain ⟨k, h, h'⟩ := pick_word hlr hgr hl hg r
  have hs := start_pick (pick l g) r k h
  refine (taken_row _ _ r k hs).trans ((gather_row _ _ r k hs).trans ((logp_row l r k).trans ?_))
  rw [hlr r]
  exact (Row.klp_eq (hl r) (hg r) k h').symm

omit hgr in
theorem entropy_eq (mask : IVec S50000x512 1) (hm : ∀ i, mask i = 1#1) :
    entropy mask (logp l) = fun y : S50000.Idx => Row.kent (lr (y 0)) (gr (y 0)) := by
  funext y
  obtain ⟨r, rfl⟩ : ∃ r : Fin 50000, y = (ix1 r : S50000.Idx) := ⟨y 0, eq_ix1 (n0 := 50000) y⟩
  refine (entropy_row mask (logp l) r fun j => hm _).trans ?_
  simp only [logp_row]
  rw [hlr r]
  exact (Row.kent_eq (hl r) (hg r)).symm

end Cert.ReferenceIdeal.Run

end
-- ==== Proof.Pre.lean ====
/- What the precondition says of the arguments over the extended reals: every mask entry is set, and every entry of `x`, of the
   weights and biases that feed the logits, and of the noise is a real number. -/
module

public import proofs.«01_k».proof.Pre_finite_unmasked
public import proofs.«01_k».proof.Proof.Row
public import Idealize.ShloMosaic.Lib.ReduceAll
public import Idealize.ShloMosaic.Lib.Affine

@[expose] public section

noncomputable section

namespace Cert.Pre

open Cert.Pre_finite_unmasked
open Idealize.ShloMosaic
open Cert.Row (IsR)

instance : Subsingleton S_.Idx := ⟨fun a b => funext fun i => i.elim0⟩

theorem ofBits_inf : (Ideal.ofBits FTy.f32 0x7F800000#32 : EReal) = ⊤ := by
  simp [Ideal.ofBits, Ideal.ieee]

/-- An entry below plus infinity in absolute value is a real number. -/
theorem isR_of_lt {a : EReal} (h : Ideal.cmp .olt (max a (-a)) (Ideal.ofBits FTy.f32 0x7F800000#32) = 1#1) : IsR a := by
  rw [ofBits_inf] at h
  refine IsR.of_abs_lt ?_
  by_contra hn
  simp [Ideal.cmp, hn] at h

/-- An array whose test `|a| < inf` holds everywhere has real entries. -/
theorem isR_of_all {s : Shape} {axes : List (Fin s.rank)} (x : FVec Ideal s .f32) (hb : S_.BroadcastsInDim s (![] : Fin 0 → Fin s.rank)) (h : s.ReducesTo axes S_)
    (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : IsR (x i) :=
  isR_of_lt (Host.reduce_andi_all _ _ h hu j e i)

theorem both {p q : IVec S_ 1} {j : S_.Idx} (e : andi p q j = 1#1) : p j = 1#1 ∧ q j = 1#1 := IntOp.andi_eq_one.1 e

variable [Facts]

theorem unpack (x : FVec Ideal S50000x128 .f32) (mask : IVec S50000x512 1) (w1 : FVec Ideal S128x128 .f32) (b1 : FVec Ideal S128 .f32)
    (w2 : FVec Ideal S128x64 .f32) (b2 : FVec Ideal S64 .f32) (w3 : FVec Ideal S64x128 .f32) (b3 : FVec Ideal S128 .f32)
    (wa : FVec Ideal S128x512 .f32) (ba : FVec Ideal S512 .f32) (wc : FVec Ideal S128x1 .f32) (bc : FVec Ideal S1 .f32) (g : FVec Ideal S50000x512 .f32)
    (e : fn (F := Ideal) x mask w1 b1 w2 b2 w3 b3 wa ba wc bc g = fun _ => 1#1) :
    (∀ i, mask i = 1#1) ∧ (∀ i, IsR (x i)) ∧ (∀ i, IsR (w1 i)) ∧ (∀ i, IsR (b1 i)) ∧ (∀ i, IsR (w2 i)) ∧ (∀ i, IsR (b2 i))
      ∧ (∀ i, IsR (w3 i)) ∧ (∀ i, IsR (b3 i)) ∧ (∀ i, IsR (wa i)) ∧ (∀ i, IsR (ba i)) ∧ (∀ i, IsR (g i)) := by
  have e0 := congrFun e (fun a => a.elim0)
  dsimp only [fn, fn_part1, fn_part2] at e0
  replace e0 := both e0
  have hg := isR_of_all _ _ _ _ _ e0.2
  replace e0 := both e0.1
  have hba := isR_of_all _ _ _ _ _ e0.2
  replace e0 := both e0.1
  have hwa := isR_of_all _ _ _ _ _ e0.2
  replace e0 := both e0.1
  have hb3 := isR_of_all _ _ _ _ _ e0.2
  replace e0 := both e0.1
  have hw3 := isR_of_all _ _ _ _ _ e0.2
  replace e0 := both e0.1
  have hb2 := isR_of_all _ _ _ _ _ e0.2
  replace e0 := both e0.1
  have hw2 := isR_of_all _ _ _ _ _ e0.2
  replace e0 := both e0.1
  have hb1 := isR_of_all _ _ _ _ _ e0.2
  replace e0 := both e0.1
  have hw1 := isR_of_all _ _ _ _ _ e0.2
  replace e0 := both e0.1
  have hx := isR_of_all _ _ _ _ _ e0.2
  have hm := Host.reduce_andi_all _ _ _ _ _ e0.1
  exact ⟨hm, hx, hw1, hb1, hw2, hb2, hw3, hb3, hwa, hba, hg⟩

end Cert.Pre

end
-- ==== Proof.Algebraic.lean ====
/- The algebraic claim: the two programs' results, each as a function of its row, are the same arrays. -/
module

public import proofs.«01_k».proof.Defs
public import proofs.«01_k».proof.Proof.Final
public import proofs.«01_k».proof.Proof.RunKernelIdeal
public import proofs.«01_k».proof.Proof.RefRun
public import proofs.«01_k».proof.Proof.RefRow
public import proofs.«01_k».proof.Proof.Pair
public import proofs.«01_k».proof.Proof.Pre
public import proofs.«01_k».proof.Proof.Gen.Pre_finite_unmasked

@[expose] public section

set_option maxRecDepth 16384

noncomputable section

namespace Cert.Algebraic

open Idealize.ShloMosaic Idealize.ShloMosaic.TcCoe Idealize.SL.Sem
open Cert.KernelIdeal.Run (frow lrow grow vrow)
open Cert.ReferenceIdeal.Run (F L)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The two memories hold the same arguments on a device. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- A row of the reference's features is the kernel's. -/
theorem F_row (h : Same m m' c) (r : Fin 50000) : (fun j => F m' c (ix2 r j)) = frow m c r := by
  obtain ⟨h0, h1, h2, h3, h4, h5, h6, h7, h8, h9, h10, h11, h12⟩ := h
  unfold F
  rw [h0, h2, h3, h4, h5, h6, h7]
  exact Cert.ReferenceIdeal.Run.features_row _ _ _ _ _ _ _ r

/-- A row of the reference's masked logits is the kernel's logits, the mask being all true. -/
theorem L_row (h : Same m m' c) (hm : ∀ i, (m ((c.tc : Thread Cert.KernelIdeal.nD Cert.KernelIdeal.τ).loc Cert.KernelIdeal.main_arg1) : IVec Cert.KernelIdeal.S50000x512 1) i = 1#1)
    (r : Fin 50000) : (fun j => L m' c (ix2 r j)) = lrow m c r := by
  have hF := F_row h r
  obtain ⟨h0, h1, h2, h3, h4, h5, h6, h7, h8, h9, h10, h11, h12⟩ := h
  funext j
  unfold L
  rw [h1, h8, h9]
  refine (Cert.ReferenceIdeal.Run.logits_row _ _ _ _ r j (hm _)).trans ?_
  rw [hF]
  rfl

/-- The reference's value head, row by row, is the kernel's. -/
theorem value_eq (h : Same m m' c) :
    Cert.ReferenceIdeal.Run.value (F m' c) (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = fun y : Cert.KernelIdeal.S50000.Idx => vrow m c (y 0) := by
  have hF := F_row h
  obtain ⟨h0, h1, h2, h3, h4, h5, h6, h7, h8, h9, h10, h11, h12⟩ := h
  rw [h10, h11]
  funext y
  obtain ⟨r, rfl⟩ : ∃ r : Fin 50000, y = (ix1 r : Cert.KernelIdeal.S50000.Idx) := ⟨y 0, eq_ix1 (n0 := 50000) y⟩
  refine (Cert.ReferenceIdeal.Run.value_row _ _ _ r).trans ?_
  rw [hF r]
  rfl

/-- The noise of the two programs is the same argument. -/
theorem noise_row (h : Same m m' c) (r : Fin 50000) :
    (fun j => (m' ((c.tc : Thread Cert.ReferenceIdeal.nD Cert.ReferenceIdeal.τ).loc Cert.ReferenceIdeal.main_arg12) : FVec Ideal Cert.ReferenceIdeal.S50000x512 .f32) (ix2 r j)) = grow m c r := by
  obtain ⟨h0, h1, h2, h3, h4, h5, h6, h7, h8, h9, h10, h11, h12⟩ := h
  rw [h12]
  rfl

theorem claim : Cert.algebraic_KernelIdeal_ReferenceIdeal_pre_finite_unmasked := by
  intro m g m' g' hpre hsame
  refine ⟨fun c => fun y : Cert.KernelIdeal.S50000.Idx => Row.kpick (lrow m c (y 0)) (grow m c (y 0)),
    fun c => fun y : Cert.KernelIdeal.S50000.Idx => Row.klp (lrow m c (y 0)) (grow m c (y 0)),
    fun c => fun y : Cert.KernelIdeal.S50000.Idx => Row.kent (lrow m c (y 0)) (grow m c (y 0)),
    fun c => fun y : Cert.KernelIdeal.S50000.Idx => vrow m c (y 0), ?_, ?_⟩
  · exact (θ_run Cert.KernelIdeal.defs _ _).mono (fun r h c =>
      ⟨((h.1 c).1 12).trans (Cert.KernelIdeal.Run.pick_final m c), ((h.1 c).1 13).trans (Cert.KernelIdeal.Run.logp_final m c),
        ((h.1 c).1 14).trans (Cert.KernelIdeal.Run.ent_final m c), ((h.1 c).1 15).trans (Cert.KernelIdeal.Run.val_final m c), Cert.KernelIdeal.Run.kept m h.1 c⟩)
      (Cert.KernelIdeal.Run.run m g)
  · refine (θ_run Cert.ReferenceIdeal.defs _ _).mono (fun r h c => ?_) (Cert.ReferenceIdeal.Run.run m' g')
    have hs : Same m m' c := hsame c
    obtain ⟨hm, hx, hw1, hb1, hw2, hb2, hw3, hb3, hwa, hba, hg⟩ := Cert.Pre.unpack _ _ _ _ _ _ _ _ _ _ _ _ _ (hpre c)
    have hl : ∀ r j, Row.IsR (lrow m c r j) := fun r j =>
      Row.lay_isR (fun _ _ => hwa _) (fun _ => hba _) (fun k => Cert.ReferenceIdeal.Run.features_isR (fun _ _ => hw1 _) (fun _ => hb1 _) (fun _ _ => hw2 _) (fun _ => hb2 _)
        (fun _ _ => hw3 _) (fun _ => hb3 _) (fun _ => hx _) k) j
    have hgg : ∀ r j, Row.IsR (grow m c r j) := fun r j => hg _
    obtain ⟨h0, h1, h2, h3, ha⟩ := h c
    refine ⟨h0.trans (Cert.ReferenceIdeal.Run.pick_eq (L_row hs hm) (noise_row hs) hl hgg), h1.trans (Cert.ReferenceIdeal.Run.taken_eq (L_row hs hm) (noise_row hs) hl hgg),
      h2.trans ?_, h3.trans (value_eq hs), ha⟩
    refine Cert.ReferenceIdeal.Run.entropy_eq (L_row hs hm) hl hgg _ ?_
    rw [hs.2.1]
    exact hm

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_unmasked
public import proofs.«01_k».proof.Proof.FrameKernel
public import proofs.«01_k».proof.Proof.RunKernelIdeal
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_unmasked.Gen.facts,
  fun m g _ => Cert.Kernel.Body.frame m g,
  fun m g _ => Cert.KernelIdeal.Run.frame m g,
  fun m g _ => Cert.KernelIdeal.Run.frame m g,
  fun m g _ => Cert.ReferenceIdeal.Run.frame m g,
  fun m g _ => Cert.ReferenceIdeal.Run.frame m g,
  IdealRules.named_const.statement Cert.KernelIdeal.κ "neg" .f32 0xFF61B1E6#32 ⊥ rfl,
  Cert.Algebraic.claim⟩

end Cert.Proof

end
